-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "rsqrt2" .f32 0x3F3504F3#32 ((8388608 / 11863283 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x1280 : Shape := ⟨3, ![6, 4096, 1280]⟩
abbrev S6x4096 : Shape := ⟨2, ![6, 4096]⟩
abbrev S1280x1280 : Shape := ⟨2, ![1280, 1280]⟩
abbrev S1280 : Shape := ⟨1, ![1280]⟩
abbrev S1280x5120 : Shape := ⟨2, ![1280, 5120]⟩
abbrev S5120 : Shape := ⟨1, ![5120]⟩
abbrev S5120x1280 : Shape := ⟨2, ![5120, 1280]⟩
abbrev S24576x1280 : Shape := ⟨2, ![24576, 1280]⟩
abbrev S48x1x512 : Shape := ⟨3, ![48, 1, 512]⟩
abbrev S1x1280 : Shape := ⟨2, ![1, 1280]⟩
abbrev S1x5120 : Shape := ⟨2, ![1, 5120]⟩
abbrev S24576x5120 : Shape := ⟨2, ![24576, 5120]⟩
abbrev S512x1280 : Shape := ⟨2, ![512, 1280]⟩
abbrev S1x1x512 : Shape := ⟨3, ![1, 1, 512]⟩
abbrev S512x5120 : Shape := ⟨2, ![512, 5120]⟩
abbrev S1x512 : Shape := ⟨2, ![1, 512]⟩
abbrev S8x512 : Shape := ⟨2, ![8, 512]⟩
abbrev S512x8 : Shape := ⟨2, ![512, 8]⟩
abbrev S512x1 : Shape := ⟨2, ![512, 1]⟩
abbrev S512 : Shape := ⟨1, ![512]⟩
abbrev S512x128 : Shape := ⟨2, ![512, 128]⟩
abbrev S128x512 : Shape := ⟨2, ![128, 512]⟩
abbrev S1280x1024 : Shape := ⟨2, ![1280, 1024]⟩
abbrev S512x1024 : Shape := ⟨2, ![512, 1024]⟩
abbrev S1x1024 : Shape := ⟨2, ![1, 1024]⟩

abbrev nBuf : Space → Nat
  | .hbm => 30
  | .vmem => 28
  | .smem => 0
  | _ => 0

abbrev bufTy : (tb : Table) → Fin (tcTables nBuf tb) → BufTy
  | .hbm, ⟨0, _⟩ => ⟨S6x4096x1280, .bf16⟩
  | .hbm, ⟨1, _⟩ => ⟨S6x4096x1280, .i8⟩
  | .hbm, ⟨2, _⟩ => ⟨S6x4096, .f32⟩
  | .hbm, ⟨3, _⟩ => ⟨S1280x1280, .i8⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280, .f32⟩
  | .hbm, ⟨8, _⟩ => ⟨S1280x5120, .i8⟩
  | .hbm, ⟨9, _⟩ => ⟨S5120, .f32⟩
  | .hbm, ⟨10, _⟩ => ⟨S5120, .f32⟩
  | .hbm, ⟨11, _⟩ => ⟨S5120x1280, .i8⟩
  | .hbm, ⟨12, _⟩ => ⟨S1280, .f32⟩
  | .hbm, ⟨13, _⟩ => ⟨S1280, .f32⟩
  | .hbm, ⟨14, _⟩ => ⟨S24576x1280, .bf16⟩
  | .hbm, ⟨15, _⟩ => ⟨S24576x1280, .i8⟩
  | .hbm, ⟨16, _⟩ => ⟨S48x1x512, .f32⟩
  | .hbm, ⟨17, _⟩ => ⟨S1x1280, .f32⟩
  | .hbm, ⟨18, _⟩ => ⟨S1x1280, .f32⟩
  | .hbm, ⟨19, _⟩ => ⟨S1x1280, .f32⟩
  | .hbm, ⟨20, _⟩ => ⟨S1x1280, .f32⟩
  | .hbm, ⟨21, _⟩ => ⟨S1x5120, .f32⟩
  | .hbm, ⟨22, _⟩ => ⟨S1x5120, .f32⟩
  | .hbm, ⟨23, _⟩ => ⟨S1x1280, .f32⟩
  | .hbm, ⟨24, _⟩ => ⟨S1x1280, .f32⟩
  | .hbm, ⟨25, _⟩ => ⟨S24576x1280, .bf16⟩
  | .hbm, ⟨26, _⟩ => ⟨S24576x1280, .i8⟩
  | .hbm, ⟨27, _⟩ => ⟨S48x1x512, .f32⟩
  | .hbm, ⟨28, _⟩ => ⟨S24576x5120, .i8⟩
  | .hbm, ⟨29, _⟩ => ⟨S48x1x512, .f32⟩
  | .local _ .vmem, ⟨0, _⟩ => ⟨S512x1280, .bf16⟩
  | .local _ .vmem, ⟨1, _⟩ => ⟨S512x1280, .bf16⟩
  | .local _ .vmem, ⟨2, _⟩ => ⟨S512x1280, .i8⟩
  | .local _ .vmem, ⟨3, _⟩ => ⟨S512x1280, .i8⟩
  | .local _ .vmem, ⟨4, _⟩ => ⟨S1x1x512, .f32⟩
  | .local _ .vmem, ⟨5, _⟩ => ⟨S1x1x512, .f32⟩
  | .local _ .vmem, ⟨6, _⟩ => ⟨S1280x1280, .i8⟩
  | .local _ .vmem, ⟨7, _⟩ => ⟨S1x1280, .f32⟩
  | .local _ .vmem, ⟨8, _⟩ => ⟨S1x1280, .f32⟩
  | .local _ .vmem, ⟨9, _⟩ => ⟨S1x1280, .f32⟩
  | .local _ .vmem, ⟨10, _⟩ => ⟨S1x1280, .f32⟩
  | .local _ .vmem, ⟨11, _⟩ => ⟨S1280x5120, .i8⟩
  | .local _ .vmem, ⟨12, _⟩ => ⟨S1x5120, .f32⟩
  | .local _ .vmem, ⟨13, _⟩ => ⟨S1x5120, .f32⟩
  | .local _ .vmem, ⟨14, _⟩ => ⟨S5120x1280, .i8⟩
  | .local _ .vmem, ⟨15, _⟩ => ⟨S1x1280, .f32⟩
  | .local _ .vmem, ⟨16, _⟩ => ⟨S1x1280, .f32⟩
  | .local _ .vmem, ⟨17, _⟩ => ⟨S512x1280, .bf16⟩
  | .local _ .vmem, ⟨18, _⟩ => ⟨S512x1280, .bf16⟩
  | .local _ .vmem, ⟨19, _⟩ => ⟨S512x1280, .i8⟩
  | .local _ .vmem, ⟨20, _⟩ => ⟨S512x1280, .i8⟩
  | .local _ .vmem, ⟨21, _⟩ => ⟨S1x1x512, .f32⟩
  | .local _ .vmem, ⟨22, _⟩ => ⟨S1x1x512, .f32⟩
  | .local _ .vmem, ⟨23, _⟩ => ⟨S512x5120, .i8⟩
  | .local _ .vmem, ⟨24, _⟩ => ⟨S512x5120, .i8⟩
  | .local _ .vmem, ⟨25, _⟩ => ⟨S1x1x512, .f32⟩
  | .local _ .vmem, ⟨26, _⟩ => ⟨S1x1x512, .f32⟩
  | .local _ .vmem, ⟨27, _⟩ => ⟨S512x5120, .f32⟩
  | _, _ => ⟨S6x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1280x5120 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5120x1280 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1280 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1280 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x5120 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "rsqrt2" => some ((8388608 / 11863283 : ℝ) : EReal)
  | _ => none
-- ==== ReferenceIdeal.lean ====
abbrev S6x4096x1280 : Shape := ⟨3, ![6, 4096, 1280]⟩
abbrev S6x4096 : Shape := ⟨2, ![6, 4096]⟩
abbrev S1280x1280 : Shape := ⟨2, ![1280, 1280]⟩
abbrev S1280 : Shape := ⟨1, ![1280]⟩
abbrev S1280x5120 : Shape := ⟨2, ![1280, 5120]⟩
abbrev S5120 : Shape := ⟨1, ![5120]⟩
abbrev S5120x1280 : Shape := ⟨2, ![5120, 1280]⟩
abbrev S24576x1280 : Shape := ⟨2, ![24576, 1280]⟩
abbrev S24576x1 : Shape := ⟨2, ![24576, 1]⟩
abbrev S1x1280 : Shape := ⟨2, ![1, 1280]⟩
abbrev S1x5120 : Shape := ⟨2, ![1, 5120]⟩
abbrev S48x1x512 : Shape := ⟨3, ![48, 1, 512]⟩
abbrev S24576x5120 : Shape := ⟨2, ![24576, 5120]⟩
abbrev S24576 : Shape := ⟨1, ![24576]⟩

abbrev nBuf : Space → Nat
  | .hbm => 30
  | .vmem => 19
  | .smem => 0
  | _ => 0

abbrev bufTy : (tb : Table) → Fin (tcTables nBuf tb) → BufTy
  | .hbm, ⟨0, _⟩ => ⟨S6x4096x1280, .bf16⟩
  | .hbm, ⟨1, _⟩ => ⟨S6x4096x1280, .i8⟩
  | .hbm, ⟨2, _⟩ => ⟨S6x4096, .f32⟩
  | .hbm, ⟨3, _⟩ => ⟨S1280x1280, .i8⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280, .f32⟩
  | .hbm, ⟨8, _⟩ => ⟨S1280x5120, .i8⟩
  | .hbm, ⟨9, _⟩ => ⟨S5120, .f32⟩
  | .hbm, ⟨10, _⟩ => ⟨S5120, .f32⟩
  | .hbm, ⟨11, _⟩ => ⟨S5120x1280, .i8⟩
  | .hbm, ⟨12, _⟩ => ⟨S1280, .f32⟩
  | .hbm, ⟨13, _⟩ => ⟨S1280, .f32⟩
  | .hbm, ⟨14, _⟩ => ⟨S24576x1280, .bf16⟩
  | .hbm, ⟨15, _⟩ => ⟨S24576x1280, .i8⟩
  | .hbm, ⟨16, _⟩ => ⟨S24576x1, .f32⟩
  | .hbm, ⟨17, _⟩ => ⟨S1x1280, .f32⟩
  | .hbm, ⟨18, _⟩ => ⟨S1x1280, .f32⟩
  | .hbm, ⟨19, _⟩ => ⟨S1x1280, .f32⟩
  | .hbm, ⟨20, _⟩ => ⟨S1x1280, .f32⟩
  | .hbm, ⟨21, _⟩ => ⟨S1x5120, .f32⟩
  | .hbm, ⟨22, _⟩ => ⟨S1x5120, .f32⟩
  | .hbm, ⟨23, _⟩ => ⟨S1x1280, .f32⟩
  | .hbm, ⟨24, _⟩ => ⟨S1x1280, .f32⟩
  | .hbm, ⟨25, _⟩ => ⟨S24576x1280, .bf16⟩
  | .hbm, ⟨26, _⟩ => ⟨S24576x1280, .i8⟩
  | .hbm, ⟨27, _⟩ => ⟨S48x1x512, .f32⟩
  | .hbm, ⟨28, _⟩ => ⟨S24576x5120, .i8⟩
  | .hbm, ⟨29, _⟩ => ⟨S48x1x512, .f32⟩
  | .local _ .vmem, ⟨0, _⟩ => ⟨S24576x1280, .bf16⟩
  | .local _ .vmem, ⟨1, _⟩ => ⟨S24576x1280, .i8⟩
  | .local _ .vmem, ⟨2, _⟩ => ⟨S24576x1, .f32⟩
  | .local _ .vmem, ⟨3, _⟩ => ⟨S1280x1280, .i8⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1280x5120, .i8⟩
  | .local _ .vmem, ⟨9, _⟩ => ⟨S1x5120, .f32⟩
  | .local _ .vmem, ⟨10, _⟩ => ⟨S1x5120, .f32⟩
  | .local _ .vmem, ⟨11, _⟩ => ⟨S5120x1280, .i8⟩
  | .local _ .vmem, ⟨12, _⟩ => ⟨S1x1280, .f32⟩
  | .local _ .vmem, ⟨13, _⟩ => ⟨S1x1280, .f32⟩
  | .local _ .vmem, ⟨14, _⟩ => ⟨S24576x1280, .bf16⟩
  | .local _ .vmem, ⟨15, _⟩ => ⟨S24576x1280, .i8⟩
  | .local _ .vmem, ⟨16, _⟩ => ⟨S48x1x512, .f32⟩
  | .local _ .vmem, ⟨17, _⟩ => ⟨S24576x5120, .i8⟩
  | .local _ .vmem, ⟨18, _⟩ => ⟨S48x1x512, .f32⟩
  | _, _ => ⟨S6x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S24576x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1280 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x5120 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5120x1280 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24576x1280 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S24576x1280 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S48x1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S24576x5120 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S48x1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.KernelBlock.lean ====
/- What one grid point's body leaves in its five output blocks, as the kernel's own payloads of the point's fourteen
   input blocks: the loads of whole blocks are the blocks, the hidden block is stored in five column pieces and read
   back piece by piece, and the hidden codes are stored in five column pieces and read back whole. -/
module

public import proofs.«01_k».proof.Proof.Gen.KernelIdeal.Frame
public import Idealize.ShloMosaic.Lib.Pipeline.Value

@[expose] public section

set_option maxRecDepth 16384

noncomputable section

namespace Cert.KernelIdeal.Block

open Cert.KernelIdeal Cert.KernelIdeal.Gen
open Idealize.ShloMosaic Idealize.ShloMosaic.TcCoe Idealize.ShloMosaic.Tactic Idealize.SL.Sem

/-- The fourteen input blocks of a grid point. -/
structure In (F : FTy → Type) where
  x0 : Vec F S512x1280 .bf16
  x1 : Vec F S512x1280 .i8
  x2 : Vec F S1x1x512 .f32
  x3 : Vec F S1280x1280 .i8
  x4 : Vec F S1x1280 .f32
  x5 : Vec F S1x1280 .f32
  x6 : Vec F S1x1280 .f32
  x7 : Vec F S1x1280 .f32
  x8 : Vec F S1280x5120 .i8
  x9 : Vec F S1x5120 .f32
  x10 : Vec F S1x5120 .f32
  x11 : Vec F S5120x1280 .i8
  x12 : Vec F S1x1280 .f32
  x13 : Vec F S1x1280 .f32

variable {F : FTy → Type} [FloatOps F] [Named F]

/-- Zero offsets of a two-dimensional block. -/
theorem zero2 : (![0, 0] : Fin 2 → Nat) = fun _ => 0 := by funext i; fin_cases i <;> rfl

/-- Zero offsets of a three-dimensional block. -/
theorem zero3 : (![0, 0, 0] : Fin 3 → Nat) = fun _ => 0 := by funext i; fin_cases i <;> rfl

section Defs
variable (I : In F)

/-- The block after the output projection and the residual. -/
def resid : FVec F S512x1280 .f32 := k0_pay3 I.x1 I.x3 I.x0 I.x2 I.x4 I.x5

/-- The block less its rows' means. -/
def centred : FVec F S512x1280 .f32 := k0_pay6 I.x1 I.x3 I.x0 I.x2 I.x4 I.x5

/-- The rows' sums of squares. -/
def squares : FVec F S512 .f32 := k0_pay7 I.x1 I.x3 I.x0 I.x2 I.x4 I.x5

/-- The gain and the offset of the normalisation. -/
def gain : FVec F S1x1280 .f32 := k0_pay4 I.x6
def offset : FVec F S1x1280 .f32 := k0_pay5 I.x7

/-- The rows' quantiser steps, as a column. -/
def steps : FVec F S512x1 .f32 := k0_pay9 (gain I) (offset I) (centred I) (squares I)

/-- The clipped and rounded rows, as floats: what the first feed-forward product multiplies. -/
def rounded : FVec F S512x1280 .bf16 := k0_pay13 (gain I) (offset I) (centred I) (squares I)

/-- Column piece 0 of the first feed-forward weights, of their scales and of their biases. -/
def w1_0 : Vec F S1280x1024 .i8 := View.ld I.x8 (Rect.unit (s := S1280x5120) ![0, 0] S1280x1024.size inb_S1280x5120_S1280x1024_0_0)
def w1s_0 : Vec F S1x1024 .f32 := View.ld I.x9 (Rect.unit (s := S1x5120) ![0, 0] S1x1024.size inb_S1x5120_S1x1024_0_0)
def b1_0 : Vec F S1x1024 .f32 := View.ld I.x10 (Rect.unit (s := S1x5120) ![0, 0] S1x1024.size inb_S1x5120_S1x1024_0_0)

/-- Column piece 1 of the first feed-forward weights, of their scales and of their biases. -/
def w1_1 : Vec F S1280x1024 .i8 := View.ld I.x8 (Rect.unit (s := S1280x5120) ![0, 1024] S1280x1024.size inb_S1280x5120_S1280x1024_0_1024)
def w1s_1 : Vec F S1x1024 .f32 := View.ld I.x9 (Rect.unit (s := S1x5120) ![0, 1024] S1x1024.size inb_S1x5120_S1x1024_0_1024)
def b1_1 : Vec F S1x1024 .f32 := View.ld I.x10 (Rect.unit (s := S1x5120) ![0, 1024] S1x1024.size inb_S1x5120_S1x1024_0_1024)

/-- Column piece 2 of the first feed-forward weights, of their scales and of their biases. -/
def w1_2 : Vec F S1280x1024 .i8 := View.ld I.x8 (Rect.unit (s := S1280x5120) ![0, 2048] S1280x1024.size inb_S1280x5120_S1280x1024_0_2048)
def w1s_2 : Vec F S1x1024 .f32 := View.ld I.x9 (Rect.unit (s := S1x5120) ![0, 2048] S1x1024.size inb_S1x5120_S1x1024_0_2048)
def b1_2 : Vec F S1x1024 .f32 := View.ld I.x10 (Rect.unit (s := S1x5120) ![0, 2048] S1x1024.size inb_S1x5120_S1x1024_0_2048)

/-- Column piece 3 of the first feed-forward weights, of their scales and of their biases. -/
def w1_3 : Vec F S1280x1024 .i8 := View.ld I.x8 (Rect.unit (s := S1280x5120) ![0, 3072] S1280x1024.size inb_S1280x5120_S1280x1024_0_3072)
def w1s_3 : Vec F S1x1024 .f32 := View.ld I.x9 (Rect.unit (s := S1x5120) ![0, 3072] S1x1024.size inb_S1x5120_S1x1024_0_3072)
def b1_3 : Vec F S1x1024 .f32 := View.ld I.x10 (Rect.unit (s := S1x5120) ![0, 3072] S1x1024.size inb_S1x5120_S1x1024_0_3072)

/-- Column piece 4 of the first feed-forward weights, of their scales and of their biases. -/
def w1_4 : Vec F S1280x1024 .i8 := View.ld I.x8 (Rect.unit (s := S1280x5120) ![0, 4096] S1280x1024.size inb_S1280x5120_S1280x1024_0_4096)
def w1s_4 : Vec F S1x1024 .f32 := View.ld I.x9 (Rect.unit (s := S1x5120) ![0, 4096] S1x1024.size inb_S1x5120_S1x1024_0_4096)
def b1_4 : Vec F S1x1024 .f32 := View.ld I.x10 (Rect.unit (s := S1x5120) ![0, 4096] S1x1024.size inb_S1x5120_S1x1024_0_4096)

/-- Piece 1 and piece 4 of the first feed-forward layer, before the activation (piece 4 before its bias). -/
def pre1 : FVec F S512x1024 .f32 := k0_pay17 (steps I) (rounded I) (w1_1 I) (w1s_1 I) (b1_1 I)
def pre4 : FVec F S512x1024 .f32 := k0_pay27 (steps I) (rounded I) (w1_4 I) (w1s_4 I)

/-- The five pieces of the hidden block, as stored. -/
def hid0 : FVec F S512x1024 .f32 := k0_pay15 (steps I) (rounded I) (w1_0 I) (w1s_0 I) (b1_0 I)
def hid1 : FVec F S512x1024 .f32 := k0_pay19 (pre1 I)
def hid2 : FVec F S512x1024 .f32 := k0_pay22 (steps I) (rounded I) (w1_2 I) (w1s_2 I) (b1_2 I)
def hid3 : FVec F S512x1024 .f32 := k0_pay25 (steps I) (rounded I) (w1_3 I) (w1s_3 I) (b1_3 I)
def hid4 : FVec F S512x1024 .f32 := k0_pay29 (pre4 I) (b1_4 I)

/-- The rows' largest magnitudes over the first four pieces. -/
def max3 : FVec F S512x1 .f32 :=
  k0_pay26 (steps I) (rounded I) (k0_pay20 (k0_pay16 (steps I) (rounded I) (w1_0 I) (w1s_0 I) (b1_0 I)) (pre1 I))
    (k0_pay23 (steps I) (rounded I) (w1_2 I) (w1s_2 I) (b1_2 I)) (w1_3 I) (w1s_3 I) (b1_3 I)

/-- The hidden rows' quantiser steps, as a column, and their reciprocals. -/
def hidSteps : FVec F S512x1 .f32 := k0_pay30 (max3 I) (pre4 I) (b1_4 I)
def hidRecip : FVec F S512x1 .f32 := k0_pay32 (max3 I) (pre4 I) (b1_4 I)

/-- The stores of the hidden block, last first. -/
def hidPieces : List (View.Piece (Elt F) S512x5120 .f32) :=
  [⟨Rect.unit (s := S512x5120) ![0, 4096] S512x1024.size inb_S512x5120_S512x1024_0_4096, hid4 I⟩,
   ⟨Rect.unit (s := S512x5120) ![0, 3072] S512x1024.size inb_S512x5120_S512x1024_0_3072, hid3 I⟩,
   ⟨Rect.unit (s := S512x5120) ![0, 2048] S512x1024.size inb_S512x5120_S512x1024_0_2048, hid2 I⟩,
   ⟨Rect.unit (s := S512x5120) ![0, 1024] S512x1024.size inb_S512x5120_S512x1024_0_1024, hid1 I⟩,
   ⟨Rect.unit (s := S512x5120) ![0, 0] S512x1024.size inb_S512x5120_S512x1024_0_0, hid0 I⟩]

/-- The hidden block as its five stores leave it. -/
def hid : Vec F S512x5120 .f32 := View.canon (hidPieces I)

/-- A column piece of the hidden block, read back. -/
def hidRead0 : Vec F S512x1024 .f32 := View.ld (hid I) (Rect.unit (s := S512x5120) ![0, 0] S512x1024.size inb_S512x5120_S512x1024_0_0)
def hidRead1 : Vec F S512x1024 .f32 := View.ld (hid I) (Rect.unit (s := S512x5120) ![0, 1024] S512x1024.size inb_S512x5120_S512x1024_0_1024)
def hidRead2 : Vec F S512x1024 .f32 := View.ld (hid I) (Rect.unit (s := S512x5120) ![0, 2048] S512x1024.size inb_S512x5120_S512x1024_0_2048)
def hidRead3 : Vec F S512x1024 .f32 := View.ld (hid I) (Rect.unit (s := S512x5120) ![0, 3072] S512x1024.size inb_S512x5120_S512x1024_0_3072)
def hidRead4 : Vec F S512x1024 .f32 := View.ld (hid I) (Rect.unit (s := S512x5120) ![0, 4096] S512x1024.size inb_S512x5120_S512x1024_0_4096)

/-- The stores of the hidden codes, last first. -/
def codePieces : List (View.Piece (Elt F) S512x5120 .i8) :=
  [⟨Rect.unit (s := S512x5120) ![0, 4096] S512x1024.size inb_S512x5120_S512x1024_0_4096, k0_pay1 (hidRecip I) (hidRead4 I)⟩,
   ⟨Rect.unit (s := S512x5120) ![0, 3072] S512x1024.size inb_S512x5120_S512x1024_0_3072, k0_pay38 (hidRecip I) (hidRead3 I)⟩,
   ⟨Rect.unit (s := S512x5120) ![0, 2048] S512x1024.size inb_S512x5120_S512x1024_0_2048, k0_pay37 (hidRecip I) (hidRead2 I)⟩,
   ⟨Rect.unit (s := S512x5120) ![0, 1024] S512x1024.size inb_S512x5120_S512x1024_0_1024, k0_pay36 (hidRecip I) (hidRead1 I)⟩,
   ⟨Rect.unit (s := S512x5120) ![0, 0] S512x1024.size inb_S512x5120_S512x1024_0_0, k0_pay35 (k0_pay33 (max3 I) (pre4 I) (b1_4 I) (hidRead0 I)) (Scalar.ofBits .f32 0x42FE0000#32) k0_pay34⟩]

/-- The block of hidden codes as its five stores leave it. -/
def hidCodes : Vec F S512x5120 .i8 := View.canon (codePieces I)

/-- The five stores of the hidden block cover it. -/
theorem hidPieces_cover (y : S512x5120.Idx) : ∃ p ∈ hidPieces I, y ∈ p.1.set :=
  View.cover_of_tiledL (hidPieces I) S512x1024.size (by sl_kernel_rfl) y

/-- The five stores of the hidden codes cover their block. -/
theorem codePieces_cover (y : S512x5120.Idx) : ∃ p ∈ codePieces I, y ∈ p.1.set :=
  View.cover_of_tiledL (codePieces I) S512x1024.size (by sl_kernel_rfl) y

end Defs

/-! ## The five pieces are one function of their weights, scales and biases -/

section Pieces
variable (s : FVec F S512x1 .f32) (q : FVec F S512x1280 .bf16) (w : Vec F S1280x1024 .i8) (ws b : Vec F S1x1024 .f32)

/-- The activation of piece 0, of piece 2, of piece 3 and of piece 4 is spelt as that of piece 1. -/
theorem piece0_eq : k0_pay14 s q w ws b = k0_pay18 (k0_pay17 s q w ws b) := rfl
theorem piece2_eq : k0_pay21 s q w ws b = k0_pay18 (k0_pay17 s q w ws b) := rfl
theorem piece3_eq : k0_pay24 s q w ws b = k0_pay18 (k0_pay17 s q w ws b) := rfl
theorem piece4_eq : k0_pay28 (k0_pay27 s q w ws) b = k0_pay18 (k0_pay17 s q w ws b) := rfl

end Pieces

section Hid
variable (I : In F)

/-- Each stored piece of the hidden block is the activation of its piece of the layer. -/
theorem hid0_eq : hid0 I = k0_pay18 (k0_pay17 (steps I) (rounded I) (w1_0 I) (w1s_0 I) (b1_0 I)) := by
  unfold hid0 k0_pay15
  rw [piece0_eq]
  exact shapeCast_self _ _
theorem hid1_eq : hid1 I = k0_pay18 (k0_pay17 (steps I) (rounded I) (w1_1 I) (w1s_1 I) (b1_1 I)) := by
  unfold hid1 k0_pay19
  exact shapeCast_self _ _
theorem hid2_eq : hid2 I = k0_pay18 (k0_pay17 (steps I) (rounded I) (w1_2 I) (w1s_2 I) (b1_2 I)) := by
  unfold hid2 k0_pay22
  rw [piece2_eq]
  exact shapeCast_self _ _
theorem hid3_eq : hid3 I = k0_pay18 (k0_pay17 (steps I) (rounded I) (w1_3 I) (w1s_3 I) (b1_3 I)) := by
  unfold hid3 k0_pay25
  rw [piece3_eq]
  exact shapeCast_self _ _
theorem hid4_eq : hid4 I = k0_pay18 (k0_pay17 (steps I) (rounded I) (w1_4 I) (w1s_4 I) (b1_4 I)) := by
  unfold hid4 k0_pay29 pre4
  rw [piece4_eq]
  exact shapeCast_self _ _

end Hid

section Outs
variable (I : In F)
variable (c : Dev nD) (i : grid0.Coords) (arg1 : Memref sig .tc .vmem S512x1280 .bf16) (harg1 : arg1.IsWhole) (arg2 : Memref sig .tc .vmem S512x1280 .i8) (harg2 : arg2.IsWhole) (arg3 : Memref sig .tc .vmem S1x1x512 .f32) (harg3 : arg3.IsWhole) (arg4 : Memref sig .tc .vmem S1280x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1280x5120 .i8) (harg9 : arg9.IsWhole) (arg10 : Memref sig .tc .vmem S1x5120 .f32) (harg10 : arg10.IsWhole) (arg11 : Memref sig .tc .vmem S1x5120 .f32) (harg11 : arg11.IsWhole) (arg12 : Memref sig .tc .vmem S5120x1280 .i8) (harg12 : arg12.IsWhole) (arg13 : Memref sig .tc .vmem S1x1280 .f32) (harg13 : arg13.IsWhole) (arg14 : Memref sig .tc .vmem S1x1280 .f32) (harg14 : arg14.IsWhole) (arg15 : Memref sig .tc .vmem S512x1280 .bf16) (harg15 : arg15.IsWhole) (arg16 : Memref sig .tc .vmem S512x1280 .i8) (harg16 : arg16.IsWhole) (arg17 : Memref sig .tc .vmem S1x1x512 .f32) (harg17 : arg17.IsWhole) (arg18 : Memref sig .tc .vmem S512x5120 .i8) (harg18 : arg18.IsWhole) (arg19 : Memref sig .tc .vmem S1x1x512 .f32) (harg19 : arg19.IsWhole) (arg20 : Memref sig .tc .vmem S512x5120 .f32) (harg20 : arg20.IsWhole)

/-- The second normalisation's codes: one store of the whole block. -/
theorem out_15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13 =
    k0_pay11 (gain I) (offset I) (centred I) (squares I) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13)]
  unfold kernelRun0_A
  dsimp only
  sl_unfold_words
  rw [View.canon_unit_zero (S := S512x1280) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x1280) zero2, View.ld_unit_zero (S := S1x1280) zero2,
    View.ld_unit_zero (S := S1280x1280) zero2, View.ld_unit_zero (S := S5120x1280) zero2, View.ld_unit_zero (S := S1x1x512) zero3]
  rfl

/-- The second normalisation's scales, as a row: one store. -/
theorem out_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13 =
    k0_pay12 (gain I) (offset I) (centred I) (squares I) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13)]
  unfold kernelRun0_A
  dsimp only
  sl_unfold_words
  rw [View.canon_unit_zero (S := S1x1x512) zero3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x1280) zero2, View.ld_unit_zero (S := S1x1280) zero2,
    View.ld_unit_zero (S := S1280x1280) zero2, View.ld_unit_zero (S := S5120x1280) zero2, View.ld_unit_zero (S := S1x1x512) zero3]
  rfl

/-- The hidden rows' scales, as a row: one store. -/
theorem out_18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13 =
    k0_pay31 (max3 I) (pre4 I) (b1_4 I) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13)]
  unfold kernelRun0_A
  dsimp only
  sl_unfold_words
  rw [View.canon_unit_zero (S := S1x1x512) zero3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x1280) zero2, View.ld_unit_zero (S := S1x1280) zero2,
    View.ld_unit_zero (S := S1280x1280) zero2, View.ld_unit_zero (S := S5120x1280) zero2, View.ld_unit_zero (S := S1x1x512) zero3]
  rfl

/-- The hidden codes: five stores of column pieces. -/
theorem out_17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13 =
    hidCodes I := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x1280) zero2, View.ld_unit_zero (S := S1x1280) zero2,
    View.ld_unit_zero (S := S1280x1280) zero2, View.ld_unit_zero (S := S5120x1280) zero2, View.ld_unit_zero (S := S1x1x512) zero3]
  have hr := fun r => View.readCov_eq_canon_ld arg20.view (hidPieces I) r (hidPieces_cover I)
  unfold hidCodes codePieces hidRead0 hidRead1 hidRead2 hidRead3 hidRead4 hid
  rw [← hr, ← hr, ← hr, ← hr, ← hr]
  rfl

/-- The output block: one store of the whole block, the second feed-forward product read from the stored codes. -/
theorem out_14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13 =
    k0_pay2 (resid I) (hidSteps I) (hidCodes I) I.x11 I.x12 I.x13 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.x0 I.x1 I.x2 I.x3 I.x4 I.x5 I.x6 I.x7 I.x8 I.x9 I.x10 I.x11 I.x12 I.x13)]
  unfold kernelRun0_A
  dsimp only
  sl_unfold_words
  rw [View.canon_unit_zero (S := S512x1280) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x1280) zero2, View.ld_unit_zero (S := S1x1280) zero2,
    View.ld_unit_zero (S := S1280x1280) zero2, View.ld_unit_zero (S := S5120x1280) zero2, View.ld_unit_zero (S := S1x1x512) zero3]
  have hr := fun r => View.readCov_eq_canon_ld arg20.view (hidPieces I) r (hidPieces_cover I)
  have hc : hidCodes I = arg18.view.readCov (codePieces I) (Rect.unit (s := S512x5120) ![0, 0] S512x5120.size inb_S512x5120_S512x5120_0_0).toLoadRect := by
    rw [View.readCov_eq_canon_ld arg18.view (codePieces I) _ (codePieces_cover I), View.ld_unit_zero (S := S512x5120) zero2]
    rfl
  rw [hc]
  unfold codePieces hidRead0 hidRead1 hidRead2 hidRead3 hidRead4 hid
  rw [← hr, ← hr, ← hr, ← hr, ← hr]
  rfl

end Outs

end Cert.KernelIdeal.Block

end
-- ==== Proof.Model.lean ====
/- What one token's row is worth: the attention output projection with its residual, the second layer normalisation,
   the symmetric per-row int8 quantiser, the first feed-forward product with its GELU, its quantiser, and the second
   feed-forward product with its residual — over the extended reals, row by row, as the reference writes them. Both
   programs are read against these functions. The second half of the file proves the few identities by which the
   kernel's spelling of a row (a product with a reciprocal, a product with `1/√2`, a maximum over five column pieces)
   equals the reference's. -/
module

public import Idealize.ShloMosaic.Lib.Pointwise

@[expose] public section

noncomputable section

namespace Cert.Model

open Idealize.ShloMosaic

/-- The number an int8 code stands for. -/
def int8 (b : BitVec 8) : EReal := ((b.toInt : ℝ) : EReal)

/-- The largest magnitude in a row. -/
def rowMax {n : Nat} (v : Fin n → EReal) : EReal :=
  (Finset.univ : Finset (Fin n)).fold max (Ideal.ofBits .f32 0xFF800000#32) fun k => max (v k) (-(v k))

/-- The quantiser's step from a row's largest magnitude: that magnitude over 127, or 1 for a row of zeros. -/
def step (a : EReal) : EReal := if a = 0 then 1 else Ideal.div a (Ideal.ofBits .f32 0x42FE0000#32)

/-- The scale of a row. -/
def scale {n : Nat} (v : Fin n → EReal) : EReal := step (rowMax v)

/-- Rounded to the nearest integer, ties to even, and clipped to `[-127, 127]`. -/
def clipRound (x : EReal) : EReal :=
  min (Ideal.ofBits .f32 0x42FE0000#32) (max (Ideal.ofBits .f32 0xC2FE0000#32) (Ideal.liftRound Ideal.roundHalfEven x))

/-- The int8 code of an entry under a step `s`. -/
def codeAt (s x : EReal) : BitVec 8 := Ideal.fptosi 8 (clipRound (Ideal.div x s))

/-- The int8 codes of a row under its own scale. -/
def code {n : Nat} (v : Fin n → EReal) (j : Fin n) : BitVec 8 := codeAt (scale v) (v j)

/-- A quantised linear layer on one row of codes `q` with scale `s`. -/
def linear {n m : Nat} (q : Fin n → BitVec 8) (s : EReal) (w : Fin n → Fin m → BitVec 8) (ws b : Fin m → EReal) (j : Fin m) :
    EReal :=
  (∑ k, int8 (q k) * int8 (w k j)) * s * ws j + b j

/-- A row's mean (rows of 1280). -/
def mean {n : Nat} (h : Fin n → EReal) : EReal := Ideal.div (∑ k, h k) (Ideal.ofBits .f32 0x44A00000#32)

/-- A row's variance. -/
def var {n : Nat} (h : Fin n → EReal) : EReal :=
  Ideal.div (∑ k, (h k - mean h) * (h k - mean h)) (Ideal.ofBits .f32 0x44A00000#32)

/-- A row's standard deviation, with the layer normalisation's epsilon. -/
def dev {n : Nat} (h : Fin n → EReal) : EReal := Ideal.sqrt (var h + Ideal.ofBits .f32 0x358637BD#32)

/-- Layer normalisation of a row with gain `g` and offset `b`. -/
def layerNorm {n : Nat} (h g b : Fin n → EReal) (j : Fin n) : EReal := Ideal.div (h j - mean h) (dev h) * g j + b j

/-- The exact GELU, as the reference writes it: `0.5 f (1 + erf (f / √2))`. -/
def gelu (f : EReal) : EReal :=
  Ideal.ofBits .f32 0x3F000000#32 * f * (1 + Ideal.erf (Ideal.div f (Ideal.ofBits .f32 0x3FB504F3#32)))

/-- The parameters of the block: projection, normalisation and the two feed-forward layers. -/
structure Params where
  wp : Fin 1280 → Fin 1280 → BitVec 8
  wps : Fin 1280 → EReal
  bp : Fin 1280 → EReal
  g : Fin 1280 → EReal
  b : Fin 1280 → EReal
  w1 : Fin 1280 → Fin 5120 → BitVec 8
  w1s : Fin 5120 → EReal
  b1 : Fin 5120 → EReal
  w2 : Fin 5120 → Fin 1280 → BitVec 8
  w2s : Fin 1280 → EReal
  b2 : Fin 1280 → EReal

/-- One token: its residual row, its attention output as int8 codes, and their scale. -/
structure Token where
  x : Fin 1280 → EReal
  a : Fin 1280 → BitVec 8
  s : EReal

/-- The token after the output projection and the residual. -/
def resid (P : Params) (T : Token) (j : Fin 1280) : EReal := T.x j + linear T.a T.s P.wp P.wps P.bp j

/-- The token after the second layer normalisation. -/
def normed (P : Params) (T : Token) : Fin 1280 → EReal := layerNorm (resid P T) P.g P.b

/-- The first feed-forward layer before its activation. -/
def preact (P : Params) (T : Token) : Fin 5120 → EReal :=
  linear (code (normed P T)) (scale (normed P T)) P.w1 P.w1s P.b1

/-- The hidden row. -/
def hidden (P : Params) (T : Token) (j : Fin 5120) : EReal := gelu (preact P T j)

/-- The token's output row. -/
def output (P : Params) (T : Token) (j : Fin 1280) : EReal :=
  resid P T j + linear (code (hidden P T)) (scale (hidden P T)) P.w2 P.w2s P.b2 j

/-! ## The literals -/

theorem negInf_eq : Ideal.ofBits .f32 0xFF800000#32 = ⊥ := by
  simp [Ideal.ofBits, Ideal.ieee]

theorem c127_eq : Ideal.ofBits .f32 0x42FE0000#32 = ((127 : ℝ) : EReal) := by
  simp [Ideal.ofBits, Ideal.ieee, -EReal.coe_mul]; norm_num

theorem cm127_eq : Ideal.ofBits .f32 0xC2FE0000#32 = ((-127 : ℝ) : EReal) := by
  simp [Ideal.ofBits, Ideal.ieee, -EReal.coe_mul, -EReal.coe_neg]; norm_num

theorem c1280_eq : Ideal.ofBits .f32 0x44A00000#32 = ((1280 : ℝ) : EReal) := by
  simp [Ideal.ofBits, Ideal.ieee, -EReal.coe_mul]; norm_num

theorem sqrt2_eq : Ideal.ofBits .f32 0x3FB504F3#32 = ((11863283 / 8388608 : ℝ) : EReal) := by
  simp [Ideal.ofBits, Ideal.ieee, -EReal.coe_mul]; norm_num

theorem eps_pos : 0 < Ideal.ofBits .f32 0x358637BD#32 := by
  have h : Ideal.ofBits .f32 0x358637BD#32 = ((8796093 / 8796093022208 : ℝ) : EReal) := by
    simp [Ideal.ofBits, Ideal.ieee, -EReal.coe_mul]; norm_num
  rw [h]; exact_mod_cast (by norm_num : (0 : ℝ) < 8796093 / 8796093022208)

/-! ## The kernel's spellings -/

/-- A product with a reciprocal is the quotient, off zero. -/
theorem mul_recip {s : EReal} (hs : s ≠ 0) (x : EReal) : x * Ideal.div 1 s = Ideal.div x s := by
  rw [Ideal.div, Ideal.div, if_neg hs, if_neg hs, one_mul]

/-- A quantiser's step is never zero. -/
theorem step_ne_zero (a : EReal) : step a ≠ 0 := by
  unfold step
  split
  · exact one_ne_zero
  · rename_i h
    rw [c127_eq, Ideal.div_coe (by norm_num)]
    exact mul_ne_zero h (by exact_mod_cast (by norm_num : (1 / 127 : ℝ) ≠ 0))

theorem mul_self_nonneg' (x : EReal) : 0 ≤ x * x := by
  induction x with
  | bot => simp
  | top => simp
  | coe r => exact_mod_cast mul_self_nonneg r

/-- A row's deviation is never zero: the variance is a sum of squares over 1280 and epsilon is positive. -/
theorem dev_ne_zero {n : Nat} (h : Fin n → EReal) : dev h ≠ 0 := by
  have hv : 0 ≤ var h := by
    unfold var
    rw [c1280_eq, Ideal.div_coe (by norm_num)]
    exact mul_nonneg (Finset.sum_nonneg fun k _ => mul_self_nonneg' _)
      (by exact_mod_cast (by norm_num : (0 : ℝ) ≤ 1 / 1280))
  have hp : 0 < var h + Ideal.ofBits .f32 0x358637BD#32 := lt_of_lt_of_le eps_pos (le_add_of_nonneg_left hv)
  unfold dev
  revert hp
  generalize var h + Ideal.ofBits .f32 0x358637BD#32 = v
  induction v with
  | bot => intro hp; simp at hp
  | top => intro _; simp
  | coe r =>
    intro hp
    have hr : 0 < r := by exact_mod_cast hp
    rw [Ideal.sqrt_coe, if_neg (not_lt.mpr hr.le)]
    exact_mod_cast (Real.sqrt_pos.mpr hr).ne'

/-- A clipped and rounded entry is an integer between -127 and 127, so the int8 code made of it stands for it. -/
theorem int8_code (x : EReal) : int8 (Ideal.fptosi 8 (clipRound x)) = clipRound x := by
  have key : ∃ z : ℤ, -127 ≤ z ∧ z ≤ 127 ∧ clipRound x = ((z : ℝ) : EReal) := by
    unfold clipRound
    rw [c127_eq, cm127_eq]
    induction x with
    | bot =>
      refine ⟨-127, by norm_num, by norm_num, ?_⟩
      rw [Ideal.liftRound_bot, max_bot_right, min_eq_right (by exact_mod_cast (by norm_num : (-127 : ℝ) ≤ 127))]
      norm_num
    | top => exact ⟨127, by norm_num, by norm_num, by simp⟩
    | coe r =>
      refine ⟨min 127 (max (-127) (Ideal.roundHalfEven r)), by omega, by omega, ?_⟩
      rw [Ideal.liftRound_coe]
      rw [show ((min 127 (max (-127) (Ideal.roundHalfEven r)) : ℤ) : ℝ) = min 127 (max (-127) (Ideal.roundHalfEven r : ℝ))
        by push_cast; rfl, EReal.coe_strictMono.monotone.map_min, EReal.coe_strictMono.monotone.map_max]
  obtain ⟨z, h1, h2, hz⟩ := key
  rw [hz, int8, Ideal.fptosi, Ideal.toIntClamped_coe]
  have hf : (if 0 ≤ (z : ℝ) then ⌊(z : ℝ)⌋ else ⌈(z : ℝ)⌉) = z := by simp
  rw [hf]
  have : max (-(2 ^ (8 - 1) : Nat) : ℤ) (min ((2 ^ (8 - 1) : Nat) - 1) z) = z := by
    norm_num; omega
  rw [this, BitVec.toInt_ofInt]
  congr 2
  rw [Int.bmod_def]; norm_num; omega

/-- The kernel's GELU multiplies by the reciprocal of the reference's divisor. -/
theorem gelu_recip (f : EReal) :
    Ideal.ofBits .f32 0x3F000000#32 * f * (1 + Ideal.erf (f * ((8388608 / 11863283 : ℝ) : EReal))) = gelu f := by
  rw [gelu, sqrt2_eq, Ideal.div_coe (by norm_num)]
  norm_num

/-- The largest magnitude as a supremum. -/
theorem rowMax_eq_sup {n : Nat} (v : Fin n → EReal) : rowMax v = Finset.univ.sup fun k => max (v k) (-(v k)) := by
  unfold rowMax; rw [negInf_eq]; rfl

/-- Column `j` of piece `p` of a row of 5120 cut into five pieces of 1024. -/
def col (p : Fin 5) (j : Fin 1024) : Fin 5120 := ⟨1024 * p.val + j.val, by omega⟩

/-- The largest magnitude of a row of 5120 is the largest of its five pieces' largest magnitudes. -/
theorem rowMax_pieces (v : Fin 5120 → EReal) :
    max (max (max (max (rowMax fun j => v (col 0 j)) (rowMax fun j => v (col 1 j))) (rowMax fun j => v (col 2 j)))
      (rowMax fun j => v (col 3 j))) (rowMax fun j => v (col 4 j)) = rowMax v := by
  simp only [rowMax_eq_sup]
  apply le_antisymm
  · have hp : ∀ p : Fin 5, (Finset.univ.sup fun j : Fin 1024 => max (v (col p j)) (-(v (col p j)))) ≤
        Finset.univ.sup fun k => max (v k) (-(v k)) := fun p =>
      Finset.sup_le fun j _ => Finset.le_sup (f := fun k => max (v k) (-(v k))) (Finset.mem_univ (col p j))
    exact max_le (max_le (max_le (max_le (hp 0) (hp 1)) (hp 2)) (hp 3)) (hp 4)
  · refine Finset.sup_le fun k _ => ?_
    have hq : ∀ p : Fin 5, ∀ j : Fin 1024, k = col p j →
        max (v k) (-(v k)) ≤ Finset.univ.sup fun j : Fin 1024 => max (v (col p j)) (-(v (col p j))) := fun p j h => by
      subst h
      exact Finset.le_sup (f := fun j => max (v (col p j)) (-(v (col p j)))) (Finset.mem_univ j)
    have hk : k = col ⟨k.val / 1024, by omega⟩ ⟨k.val % 1024, by omega⟩ := by
      apply Fin.ext; simp only [col]; omega
    have hb := hq _ _ hk
    revert hb
    generalize (⟨k.val / 1024, by omega⟩ : Fin 5) = p
    intro hb
    refine le_trans hb ?_
    fin_cases p
    · exact le_max_of_le_left (le_max_of_le_left (le_max_of_le_left (le_max_left _ _)))
    · exact le_max_of_le_left (le_max_of_le_left (le_max_of_le_left (le_max_right _ _)))
    · exact le_max_of_le_left (le_max_of_le_left (le_max_right _ _))
    · exact le_max_of_le_left (le_max_right _ _)
    · exact le_max_right _ _

end Cert.Model

end
-- ==== Proof.KernelRows.lean ====
/- At the extended reals, every block of a grid point read at a row is the row function of `Model` of that row: the row's
   token is the row of the first three input blocks, the parameters are the other eleven blocks. -/
module

public import proofs.«01_k».proof.Proof.KernelBlock
public import proofs.«01_k».proof.Proof.Model

@[expose] public section

set_option maxRecDepth 16384

noncomputable section

namespace Cert.KernelIdeal.Block

open Cert.KernelIdeal Cert.KernelIdeal.Gen
open Idealize.ShloMosaic Idealize.ShloMosaic.TcCoe Idealize.SL.Sem

variable (I : In Ideal)

/-- The parameters that a grid point's blocks hold. -/
def params : Model.Params where
  wp k j := I.x3 (ix2 k j)
  wps j := I.x4 (ix2 0 j)
  bp j := I.x5 (ix2 0 j)
  g j := I.x6 (ix2 0 j)
  b j := I.x7 (ix2 0 j)
  w1 k j := I.x8 (ix2 k j)
  w1s j := I.x9 (ix2 0 j)
  b1 j := I.x10 (ix2 0 j)
  w2 k j := I.x11 (ix2 k j)
  w2s j := I.x12 (ix2 0 j)
  b2 j := I.x13 (ix2 0 j)

/-- The token that row `i` of a grid point's blocks holds. -/
def token (i : Fin 512) : Model.Token where
  x j := I.x0 (ix2 i j)
  a j := I.x1 (ix2 i j)
  s := I.x2 (ix3 0 0 i)

/-- The projection with its residual. -/
theorem resid_apply (i : Fin 512) (j : Fin 1280) :
    resid I (ix2 i j) = Model.resid (params I) (token I i) j := by
  unfold resid k0_pay3
  pointwise
  rfl

/-- A row less its mean. -/
theorem centred_apply (i : Fin 512) (j : Fin 1280) :
    centred I (ix2 i j) = Model.resid (params I) (token I i) j - Model.mean (Model.resid (params I) (token I i)) := by
  unfold centred k0_pay6
  pointwise
  simp only [show ∀ j, k0_pay3 I.x1 I.x3 I.x0 I.x2 I.x4 I.x5 (ix2 i j) = _ from resid_apply I i]
  rfl

/-- A row's sum of squared deviations. -/
theorem squares_apply (i : Fin 512) :
    squares I (ix1 i) = ∑ j, (Model.resid (params I) (token I i) j - Model.mean (Model.resid (params I) (token I i))) *
      (Model.resid (params I) (token I i) j - Model.mean (Model.resid (params I) (token I i))) := by
  unfold squares k0_pay7
  pointwise
  simp only [show ∀ j, k0_pay6 I.x1 I.x3 I.x0 I.x2 I.x4 I.x5 (ix2 i j) = _ from centred_apply I i]

/-- The gain as the kernel reads it. -/
theorem gain_apply (j : Fin 1280) : gain I (ix2 0 j) = (params I).g j := by
  unfold gain k0_pay4
  pointwise
  rfl

/-- The offset as the kernel reads it. -/
theorem offset_apply (j : Fin 1280) : offset I (ix2 0 j) = (params I).b j := by
  unfold offset k0_pay5
  pointwise
  rfl

/-- The normalised block, at a row. -/
theorem normed_apply (i : Fin 512) (j : Fin 1280) :
    k0_pay8 (gain I) (offset I) (centred I) (squares I) (ix2 i j) = Model.normed (params I) (token I i) j := by
  unfold k0_pay8
  pointwise
  rw [centred_apply, squares_apply]
  have h := Model.mul_recip (Model.dev_ne_zero (Model.resid (params I) (token I i)))
  simp only [Model.dev, Model.var] at h
  rw [h, gain_apply, offset_apply]
  rfl

/-- A row's quantiser step. -/
theorem steps_apply (i : Fin 512) : steps I (ix2 i 0) = Model.scale (Model.normed (params I) (token I i)) := by
  unfold steps k0_pay9
  pointwise
  simp only [normed_apply]
  rfl

/-- The rounded rows before they are cast: the quotient by the step, rounded and clipped. -/
theorem clipped_apply (i : Fin 512) (k : Fin 1280) :
    k0_pay10 (gain I) (offset I) (centred I) (squares I) (ix2 i k) =
      Model.clipRound (Ideal.div (Model.normed (params I) (token I i) k) (Model.scale (Model.normed (params I) (token I i)))) := by
  unfold k0_pay10
  pointwise
  rw [normed_apply, show k0_pay9 (gain I) (offset I) (centred I) (squares I) (ix2 i 0) = _ from steps_apply I i,
    Model.mul_recip (s := Model.scale _) (Model.step_ne_zero _)]
  rfl

/-- The rounded row is the integer that its code stands for. -/
theorem rounded_apply (i : Fin 512) (k : Fin 1280) :
    rounded I (ix2 i k) = Model.int8 (Model.code (Model.normed (params I) (token I i)) k) := by
  unfold rounded k0_pay13
  pointwise
  rw [clipped_apply]
  exact (Model.int8_code _).symm

/-- The codes of the normalised row. -/
theorem codes_apply (i : Fin 512) (k : Fin 1280) :
    k0_pay11 (gain I) (offset I) (centred I) (squares I) (ix2 i k) = Model.code (Model.normed (params I) (token I i)) k := by
  unfold k0_pay11
  pointwise
  rw [clipped_apply]
  rfl

/-- The steps of the normalised rows, as a row. -/
theorem stepRow_apply (i : Fin 512) :
    k0_pay12 (gain I) (offset I) (centred I) (squares I) (ix3 0 0 i) = Model.scale (Model.normed (params I) (token I i)) := by
  unfold k0_pay12
  pointwise
  exact steps_apply I i

end Cert.KernelIdeal.Block

end
-- ==== Proof.KernelHidden.lean ====
/- At the extended reals, the hidden block of a grid point read at a row is the hidden row of `Model`: the block is
   computed, stored and read back in five column pieces, and the row's largest magnitude is the largest of the pieces'. -/
module

public import proofs.«01_k».proof.Proof.KernelRows
public import Idealize.ShloMosaic.Lib.Pipeline.ValueKit

@[expose] public section

set_option maxRecDepth 16384

noncomputable section

namespace Cert.KernelIdeal.Block

open Cert.KernelIdeal Cert.KernelIdeal.Gen
open Idealize.ShloMosaic Idealize.ShloMosaic.TcCoe Idealize.SL.Sem

variable (I : In Ideal)

/-! ## The hidden block, by its five column pieces -/

/-- A column piece of a block of 5120 columns starts at `1024 p`. -/
theorem emb_cols {R off : Nat} (p : Fin 5) (hoff : off = 1024 * p.val)
    (inb : ∀ a, (![0, off] : Fin 2 → Nat) a + (![R, 1024] : Fin 2 → Nat) a ≤ (⟨2, ![R, 5120]⟩ : Shape).size a)
    (i : Fin R) (j : Fin 1024) :
    (Rect.unit (s := ⟨2, ![R, 5120]⟩) ![0, off] ![R, 1024] inb).emb (ix2 i j) = ix2 i (Model.col p j) := by
  subst hoff
  funext a
  apply Fin.ext
  rw [ValueKit.rect_emb_unit_val]
  fin_cases a
  · show 0 + i.val = i.val
    omega
  · rfl

/-- Piece `p` of the first feed-forward layer, given the pieces of its weights, scales and biases, is the layer at the
    piece's columns. -/
theorem preact_piece (p : Fin 5) (w : Vec Ideal S1280x1024 .i8) (ws b : Vec Ideal S1x1024 .f32)
    (hw : ∀ k j, w (ix2 k j) = I.x8 (ix2 k (Model.col p j))) (hws : ∀ j, ws (ix2 0 j) = I.x9 (ix2 0 (Model.col p j)))
    (hb : ∀ j, b (ix2 0 j) = I.x10 (ix2 0 (Model.col p j))) (i : Fin 512) (j : Fin 1024) :
    k0_pay17 (steps I) (rounded I) w ws b (ix2 i j) = Model.preact (params I) (token I i) (Model.col p j) := by
  unfold k0_pay17
  pointwise
  simp only [rounded_apply, steps_apply, hw, hws, hb]
  rfl

/-- The activation of a piece. -/
theorem gelu_piece (f : FVec Ideal S512x1024 .f32) (i : Fin 512) (j : Fin 1024) :
    k0_pay18 f (ix2 i j) = Model.gelu (f (ix2 i j)) := by
  unfold k0_pay18
  pointwise
  rw [← Model.gelu_recip, IdealRules.named_const.ideal_named_scalar _ _ _ _ rfl]
  rfl

/-- Piece 0 of the weights, scales and biases. -/
theorem w1_0_apply (k : Fin 1280) (j : Fin 1024) : w1_0 I (ix2 k j) = I.x8 (ix2 k (Model.col 0 j)) :=
  congrArg I.x8 (emb_cols 0 rfl inb_S1280x5120_S1280x1024_0_0 k j)
theorem w1s_0_apply (j : Fin 1024) : w1s_0 I (ix2 0 j) = I.x9 (ix2 0 (Model.col 0 j)) :=
  congrArg I.x9 (emb_cols 0 rfl inb_S1x5120_S1x1024_0_0 0 j)
theorem b1_0_apply (j : Fin 1024) : b1_0 I (ix2 0 j) = I.x10 (ix2 0 (Model.col 0 j)) :=
  congrArg I.x10 (emb_cols 0 rfl inb_S1x5120_S1x1024_0_0 0 j)

/-- Piece 1 of the weights, scales and biases. -/
theorem w1_1_apply (k : Fin 1280) (j : Fin 1024) : w1_1 I (ix2 k j) = I.x8 (ix2 k (Model.col 1 j)) :=
  congrArg I.x8 (emb_cols 1 rfl inb_S1280x5120_S1280x1024_0_1024 k j)
theorem w1s_1_apply (j : Fin 1024) : w1s_1 I (ix2 0 j) = I.x9 (ix2 0 (Model.col 1 j)) :=
  congrArg I.x9 (emb_cols 1 rfl inb_S1x5120_S1x1024_0_1024 0 j)
theorem b1_1_apply (j : Fin 1024) : b1_1 I (ix2 0 j) = I.x10 (ix2 0 (Model.col 1 j)) :=
  congrArg I.x10 (emb_cols 1 rfl inb_S1x5120_S1x1024_0_1024 0 j)

/-- Piece 2 of the weights, scales and biases. -/
theorem w1_2_apply (k : Fin 1280) (j : Fin 1024) : w1_2 I (ix2 k j) = I.x8 (ix2 k (Model.col 2 j)) :=
  congrArg I.x8 (emb_cols 2 rfl inb_S1280x5120_S1280x1024_0_2048 k j)
theorem w1s_2_apply (j : Fin 1024) : w1s_2 I (ix2 0 j) = I.x9 (ix2 0 (Model.col 2 j)) :=
  congrArg I.x9 (emb_cols 2 rfl inb_S1x5120_S1x1024_0_2048 0 j)
theorem b1_2_apply (j : Fin 1024) : b1_2 I (ix2 0 j) = I.x10 (ix2 0 (Model.col 2 j)) :=
  congrArg I.x10 (emb_cols 2 rfl inb_S1x5120_S1x1024_0_2048 0 j)

/-- Piece 3 of the weights, scales and biases. -/
theorem w1_3_apply (k : Fin 1280) (j : Fin 1024) : w1_3 I (ix2 k j) = I.x8 (ix2 k (Model.col 3 j)) :=
  congrArg I.x8 (emb_cols 3 rfl inb_S1280x5120_S1280x1024_0_3072 k j)
theorem w1s_3_apply (j : Fin 1024) : w1s_3 I (ix2 0 j) = I.x9 (ix2 0 (Model.col 3 j)) :=
  congrArg I.x9 (emb_cols 3 rfl inb_S1x5120_S1x1024_0_3072 0 j)
theorem b1_3_apply (j : Fin 1024) : b1_3 I (ix2 0 j) = I.x10 (ix2 0 (Model.col 3 j)) :=
  congrArg I.x10 (emb_cols 3 rfl inb_S1x5120_S1x1024_0_3072 0 j)

/-- Piece 4 of the weights, scales and biases. -/
theorem w1_4_apply (k : Fin 1280) (j : Fin 1024) : w1_4 I (ix2 k j) = I.x8 (ix2 k (Model.col 4 j)) :=
  congrArg I.x8 (emb_cols 4 rfl inb_S1280x5120_S1280x1024_0_4096 k j)
theorem w1s_4_apply (j : Fin 1024) : w1s_4 I (ix2 0 j) = I.x9 (ix2 0 (Model.col 4 j)) :=
  congrArg I.x9 (emb_cols 4 rfl inb_S1x5120_S1x1024_0_4096 0 j)
theorem b1_4_apply (j : Fin 1024) : b1_4 I (ix2 0 j) = I.x10 (ix2 0 (Model.col 4 j)) :=
  congrArg I.x10 (emb_cols 4 rfl inb_S1x5120_S1x1024_0_4096 0 j)

/-- Piece `p` of the hidden block is the hidden row at the piece's columns. -/
theorem hidden0_apply (i : Fin 512) (j : Fin 1024) :
    k0_pay18 (k0_pay17 (steps I) (rounded I) (w1_0 I) (w1s_0 I) (b1_0 I)) (ix2 i j) =
      Model.hidden (params I) (token I i) (Model.col 0 j) := by
  rw [gelu_piece, preact_piece I 0 _ _ _ (w1_0_apply I) (w1s_0_apply I) (b1_0_apply I)]
  rfl
theorem hidden1_apply (i : Fin 512) (j : Fin 1024) :
    k0_pay18 (k0_pay17 (steps I) (rounded I) (w1_1 I) (w1s_1 I) (b1_1 I)) (ix2 i j) =
      Model.hidden (params I) (token I i) (Model.col 1 j) := by
  rw [gelu_piece, preact_piece I 1 _ _ _ (w1_1_apply I) (w1s_1_apply I) (b1_1_apply I)]
  rfl
theorem hidden2_apply (i : Fin 512) (j : Fin 1024) :
    k0_pay18 (k0_pay17 (steps I) (rounded I) (w1_2 I) (w1s_2 I) (b1_2 I)) (ix2 i j) =
      Model.hidden (params I) (token I i) (Model.col 2 j) := by
  rw [gelu_piece, preact_piece I 2 _ _ _ (w1_2_apply I) (w1s_2_apply I) (b1_2_apply I)]
  rfl
theorem hidden3_apply (i : Fin 512) (j : Fin 1024) :
    k0_pay18 (k0_pay17 (steps I) (rounded I) (w1_3 I) (w1s_3 I) (b1_3 I)) (ix2 i j) =
      Model.hidden (params I) (token I i) (Model.col 3 j) := by
  rw [gelu_piece, preact_piece I 3 _ _ _ (w1_3_apply I) (w1s_3_apply I) (b1_3_apply I)]
  rfl
theorem hidden4_apply (i : Fin 512) (j : Fin 1024) :
    k0_pay18 (k0_pay17 (steps I) (rounded I) (w1_4 I) (w1s_4 I) (b1_4 I)) (ix2 i j) =
      Model.hidden (params I) (token I i) (Model.col 4 j) := by
  rw [gelu_piece, preact_piece I 4 _ _ _ (w1_4_apply I) (w1s_4_apply I) (b1_4_apply I)]
  rfl

/-- The hidden block, read at a row and a column. -/
theorem hid_apply (i : Fin 512) (k : Fin 5120) : hid I (ix2 i k) = Model.hidden (params I) (token I i) k := by
  let G : S512x5120.Idx → EReal := fun y => Model.hidden (params I) (token I (y 0)) (y 1)
  refine View.canon_apply_of_pieces (Val := Elt Ideal) (e := .f32) G (hidPieces I) ?_ _ (hidPieces_cover I _)
  intro p hp x
  simp only [hidPieces, List.mem_cons, List.not_mem_nil, or_false] at hp
  rcases hp with rfl | rfl | rfl | rfl | rfl
  · idx_vars x
    exact (congrFun (hid4_eq I) _).trans ((hidden4_apply I _ _).trans (congrArg G (emb_cols 4 rfl inb_S512x5120_S512x1024_0_4096 _ _)).symm)
  · idx_vars x
    exact (congrFun (hid3_eq I) _).trans ((hidden3_apply I _ _).trans (congrArg G (emb_cols 3 rfl inb_S512x5120_S512x1024_0_3072 _ _)).symm)
  · idx_vars x
    exact (congrFun (hid2_eq I) _).trans ((hidden2_apply I _ _).trans (congrArg G (emb_cols 2 rfl inb_S512x5120_S512x1024_0_2048 _ _)).symm)
  · idx_vars x
    exact (congrFun (hid1_eq I) _).trans ((hidden1_apply I _ _).trans (congrArg G (emb_cols 1 rfl inb_S512x5120_S512x1024_0_1024 _ _)).symm)
  · idx_vars x
    exact (congrFun (hid0_eq I) _).trans ((hidden0_apply I _ _).trans (congrArg G (emb_cols 0 rfl inb_S512x5120_S512x1024_0_0 _ _)).symm)

/-- A piece of the hidden block, read back, is the hidden row at the piece's columns. -/
theorem hidRead0_apply (i : Fin 512) (j : Fin 1024) :
    hidRead0 I (ix2 i j) = Model.hidden (params I) (token I i) (Model.col 0 j) :=
  (congrArg (hid I) (emb_cols 0 rfl inb_S512x5120_S512x1024_0_0 i j)).trans (hid_apply I i _)
theorem hidRead1_apply (i : Fin 512) (j : Fin 1024) :
    hidRead1 I (ix2 i j) = Model.hidden (params I) (token I i) (Model.col 1 j) :=
  (congrArg (hid I) (emb_cols 1 rfl inb_S512x5120_S512x1024_0_1024 i j)).trans (hid_apply I i _)
theorem hidRead2_apply (i : Fin 512) (j : Fin 1024) :
    hidRead2 I (ix2 i j) = Model.hidden (params I) (token I i) (Model.col 2 j) :=
  (congrArg (hid I) (emb_cols 2 rfl inb_S512x5120_S512x1024_0_2048 i j)).trans (hid_apply I i _)
theorem hidRead3_apply (i : Fin 512) (j : Fin 1024) :
    hidRead3 I (ix2 i j) = Model.hidden (params I) (token I i) (Model.col 3 j) :=
  (congrArg (hid I) (emb_cols 3 rfl inb_S512x5120_S512x1024_0_3072 i j)).trans (hid_apply I i _)
theorem hidRead4_apply (i : Fin 512) (j : Fin 1024) :
    hidRead4 I (ix2 i j) = Model.hidden (params I) (token I i) (Model.col 4 j) :=
  (congrArg (hid I) (emb_cols 4 rfl inb_S512x5120_S512x1024_0_4096 i j)).trans (hid_apply I i _)

/-- The rows' largest magnitudes over the first four pieces. -/
theorem max3_apply (i : Fin 512) :
    max3 I (ix2 i 0) = max (max (max (Model.rowMax fun j => Model.hidden (params I) (token I i) (Model.col 0 j))
      (Model.rowMax fun j => Model.hidden (params I) (token I i) (Model.col 1 j)))
      (Model.rowMax fun j => Model.hidden (params I) (token I i) (Model.col 2 j)))
      (Model.rowMax fun j => Model.hidden (params I) (token I i) (Model.col 3 j)) := by
  unfold max3 k0_pay26 k0_pay20 k0_pay16 k0_pay23 pre1
  pointwise
  simp only [piece0_eq, piece2_eq, piece3_eq, hidden0_apply, hidden1_apply, hidden2_apply, hidden3_apply]
  rfl

/-- A hidden row's quantiser step. -/
theorem hidSteps_apply (i : Fin 512) : hidSteps I (ix2 i 0) = Model.scale (Model.hidden (params I) (token I i)) := by
  unfold hidSteps k0_pay30 pre4
  pointwise
  simp only [piece4_eq, hidden4_apply, max3_apply]
  unfold Model.scale
  rw [← Model.rowMax_pieces]
  rfl

/-- The hidden rows' steps, as a row. -/
theorem hidStepRow_apply (i : Fin 512) :
    k0_pay31 (max3 I) (pre4 I) (b1_4 I) (ix3 0 0 i) = Model.scale (Model.hidden (params I) (token I i)) := by
  unfold k0_pay31
  pointwise
  exact hidSteps_apply I i

/-- The reciprocal of a hidden row's step. -/
theorem hidRecip_apply (i : Fin 512) :
    hidRecip I (ix2 i 0) = Ideal.div 1 (Model.scale (Model.hidden (params I) (token I i))) := by
  unfold hidRecip k0_pay32
  pointwise
  rw [show k0_pay30 (max3 I) (pre4 I) (b1_4 I) (ix2 i 0) = _ from hidSteps_apply I i]

end Cert.KernelIdeal.Block

end
-- ==== Proof.KernelOut.lean ====
/- At the extended reals, the hidden codes and the output block of a grid point, read at a row, are the hidden row's codes
   and the output row of `Model`. -/
module

public import proofs.«01_k».proof.Proof.KernelHidden

@[expose] public section

set_option maxRecDepth 16384

noncomputable section

namespace Cert.KernelIdeal.Block

open Cert.KernelIdeal Cert.KernelIdeal.Gen
open Idealize.ShloMosaic Idealize.ShloMosaic.TcCoe Idealize.SL.Sem

section Pieces
variable {F : FTy → Type} [FloatOps F] [Named F]

/-- The codes of pieces 0 to 3 are spelt as those of piece 4. -/
theorem codes0_eq (m : FVec F S512x1 .f32) (f : FVec F S512x1024 .f32) (b : Vec F S1x1024 .f32) (h : Vec F S512x1024 .f32) :
    k0_pay35 (k0_pay33 m f b h) (Scalar.ofBits .f32 0x42FE0000#32) k0_pay34 = k0_pay1 (k0_pay32 m f b) h := rfl
theorem codes1_eq (r : FVec F S512x1 .f32) (h : Vec F S512x1024 .f32) : k0_pay36 r h = k0_pay1 r h := rfl
theorem codes2_eq (r : FVec F S512x1 .f32) (h : Vec F S512x1024 .f32) : k0_pay37 r h = k0_pay1 r h := rfl
theorem codes3_eq (r : FVec F S512x1 .f32) (h : Vec F S512x1024 .f32) : k0_pay38 r h = k0_pay1 r h := rfl

end Pieces

variable (I : In Ideal)

/-- A piece of hidden codes is the hidden row's codes at the piece's columns. -/
theorem codes_piece (p : Fin 5) (h : Vec Ideal S512x1024 .f32) (i : Fin 512) (j : Fin 1024)
    (hh : h (ix2 i j) = Model.hidden (params I) (token I i) (Model.col p j)) :
    k0_pay1 (hidRecip I) h (ix2 i j) = Model.code (Model.hidden (params I) (token I i)) (Model.col p j) := by
  unfold k0_pay1
  pointwise
  rw [hh, hidRecip_apply, Model.mul_recip (s := Model.scale _) (Model.step_ne_zero _)]
  rfl

/-- The block of hidden codes, read at a row and a column. -/
theorem hidCodes_apply (i : Fin 512) (k : Fin 5120) :
    hidCodes I (ix2 i k) = Model.code (Model.hidden (params I) (token I i)) k := by
  let G : S512x5120.Idx → BitVec 8 := fun y => Model.code (Model.hidden (params I) (token I (y 0))) (y 1)
  refine View.canon_apply_of_pieces (Val := Elt Ideal) (e := .i8) G (codePieces I) ?_ _ (codePieces_cover I _)
  intro p hp x
  simp only [codePieces, List.mem_cons, List.not_mem_nil, or_false] at hp
  rcases hp with rfl | rfl | rfl | rfl | rfl
  · idx_vars x
    exact (codes_piece I 4 _ _ _ (hidRead4_apply I _ _)).trans (congrArg G (emb_cols 4 rfl inb_S512x5120_S512x1024_0_4096 _ _)).symm
  · idx_vars x
    exact (congrFun (codes3_eq _ _) _).trans ((codes_piece I 3 _ _ _ (hidRead3_apply I _ _)).trans (congrArg G (emb_cols 3 rfl inb_S512x5120_S512x1024_0_3072 _ _)).symm)
  · idx_vars x
    exact (congrFun (codes2_eq _ _) _).trans ((codes_piece I 2 _ _ _ (hidRead2_apply I _ _)).trans (congrArg G (emb_cols 2 rfl inb_S512x5120_S512x1024_0_2048 _ _)).symm)
  · idx_vars x
    exact (congrFun (codes1_eq _ _) _).trans ((codes_piece I 1 _ _ _ (hidRead1_apply I _ _)).trans (congrArg G (emb_cols 1 rfl inb_S512x5120_S512x1024_0_1024 _ _)).symm)
  · idx_vars x
    exact (congrFun (codes0_eq _ _ _ _) _).trans ((codes_piece I 0 _ _ _ (hidRead0_apply I _ _)).trans (congrArg G (emb_cols 0 rfl inb_S512x5120_S512x1024_0_0 _ _)).symm)

/-- The output block, read at a row and a column. -/
theorem output_apply (i : Fin 512) (j : Fin 1280) :
    k0_pay2 (resid I) (hidSteps I) (hidCodes I) I.x11 I.x12 I.x13 (ix2 i j) = Model.output (params I) (token I i) j := by
  unfold k0_pay2
  pointwise
  simp only [resid_apply, hidSteps_apply, hidCodes_apply]
  rfl

end Cert.KernelIdeal.Block

end
-- ==== Proof.Args.lean ====
/- The block's parameters and its tokens as the fourteen argument arrays hold them: token `r` is position `r % 4096` of
   image `r / 4096`. -/
module

public import proofs.«01_k».proof.Proof.Model
public import Idealize.ShloMosaic.Lib.Pipeline.ValueKit

@[expose] public section

noncomputable section

namespace Cert.Model

open Idealize.ShloMosaic

/-- The fourteen argument arrays, index by index. -/
structure Args where
  x : (⟨3, ![6, 4096, 1280]⟩ : Shape).Idx → EReal
  a : (⟨3, ![6, 4096, 1280]⟩ : Shape).Idx → BitVec 8
  s : (⟨2, ![6, 4096]⟩ : Shape).Idx → EReal
  wp : (⟨2, ![1280, 1280]⟩ : Shape).Idx → BitVec 8
  wps : (⟨1, ![1280]⟩ : Shape).Idx → EReal
  bp : (⟨1, ![1280]⟩ : Shape).Idx → EReal
  g : (⟨1, ![1280]⟩ : Shape).Idx → EReal
  b : (⟨1, ![1280]⟩ : Shape).Idx → EReal
  w1 : (⟨2, ![1280, 5120]⟩ : Shape).Idx → BitVec 8
  w1s : (⟨1, ![5120]⟩ : Shape).Idx → EReal
  b1 : (⟨1, ![5120]⟩ : Shape).Idx → EReal
  w2 : (⟨2, ![5120, 1280]⟩ : Shape).Idx → BitVec 8
  w2s : (⟨1, ![1280]⟩ : Shape).Idx → EReal
  b2 : (⟨1, ![1280]⟩ : Shape).Idx → EReal

/-- The parameters that the arrays hold. -/
def Args.params (A : Args) : Params where
  wp k j := A.wp (ix2 k j)
  wps j := A.wps (ix1 j)
  bp j := A.bp (ix1 j)
  g j := A.g (ix1 j)
  b j := A.b (ix1 j)
  w1 k j := A.w1 (ix2 k j)
  w1s j := A.w1s (ix1 j)
  b1 j := A.b1 (ix1 j)
  w2 k j := A.w2 (ix2 k j)
  w2s j := A.w2s (ix1 j)
  b2 j := A.b2 (ix1 j)

/-- The image and the position of a token. -/
def image (r : Fin 24576) : Fin 6 := ⟨r.val / 4096, by omega⟩
def position (r : Fin 24576) : Fin 4096 := ⟨r.val % 4096, by omega⟩

/-- Token `r` of the arrays. -/
def Args.token (A : Args) (r : Fin 24576) : Token where
  x j := A.x (ix3 (image r) (position r) j)
  a j := A.a (ix3 (image r) (position r) j)
  s := A.s (ix2 (image r) (position r))

/-- Token `512 b + i`: row `i` of block `b`. -/
def tok (b : Fin 48) (i : Fin 512) : Fin 24576 := ⟨512 * b.val + i.val, by omega⟩

/-- The five results, as functions of the argument arrays: the output rows, the codes and the scales of the normalised
    rows, the codes and the scales of the hidden rows. The scales are laid out in 48 rows of 512. -/
def Args.y (A : Args) : (⟨2, ![24576, 1280]⟩ : Shape).Idx → EReal := fun i => output A.params (A.token (i 0)) (i 1)
def Args.normCodes (A : Args) : (⟨2, ![24576, 1280]⟩ : Shape).Idx → BitVec 8 :=
  fun i => code (normed A.params (A.token (i 0))) (i 1)
def Args.normScales (A : Args) : (⟨3, ![48, 1, 512]⟩ : Shape).Idx → EReal :=
  fun i => scale (normed A.params (A.token (tok (i 0) (i 2))))
def Args.hidCodes (A : Args) : (⟨2, ![24576, 5120]⟩ : Shape).Idx → BitVec 8 :=
  fun i => code (hidden A.params (A.token (i 0))) (i 1)
def Args.hidScales (A : Args) : (⟨3, ![48, 1, 512]⟩ : Shape).Idx → EReal :=
  fun i => scale (hidden A.params (A.token (tok (i 0) (i 2))))

end Cert.Model

end
-- ==== Proof.KernelArgs.lean ====
/- Every grid point's input blocks, as the kernel's argument arrays. -/
module

public import proofs.«01_k».proof.Proof.Gen.KernelIdeal.Value
public import proofs.«01_k».proof.Proof.KernelOut
public import proofs.«01_k».proof.Proof.Args
public import Idealize.ShloMosaic.Lib.Claim

@[expose] public section

set_option maxRecDepth 16384

noncomputable section

namespace Cert.KernelIdeal.Final

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The kernel's argument arrays on device `c`. -/
def args : Model.Args where
  x := m ((c : Thread nD τ).loc main_arg0)
  a := m ((c : Thread nD τ).loc main_arg1)
  s := m ((c : Thread nD τ).loc main_arg2)
  wp := m ((c : Thread nD τ).loc main_arg3)
  wps := m ((c : Thread nD τ).loc main_arg4)
  bp := m ((c : Thread nD τ).loc main_arg5)
  g := m ((c : Thread nD τ).loc main_arg6)
  b := m ((c : Thread nD τ).loc main_arg7)
  w1 := m ((c : Thread nD τ).loc main_arg8)
  w1s := m ((c : Thread nD τ).loc main_arg9)
  b1 := m ((c : Thread nD τ).loc main_arg10)
  w2 := m ((c : Thread nD τ).loc main_arg11)
  w2s := m ((c : Thread nD τ).loc main_arg12)
  b2 := m ((c : Thread nD τ).loc main_arg13)

/-- The input blocks of grid point `t`. -/
def blocks (t : Fin cfg0.N) : Block.In Ideal where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t

/-- The windows' block indices at every grid point (decided). -/
theorem idx : ∀ t : Fin cfg0.N, win0_0.index t = ![t.val, 0] ∧ win0_1.index t = ![t.val, 0] ∧ win0_2.index t = ![t.val, 0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![0, 0] ∧
    win0_14.index t = ![t.val, 0] ∧ win0_15.index t = ![t.val, 0] ∧ win0_16.index t = ![t.val, 0, 0] ∧
    win0_17.index t = ![t.val, 0] ∧ win0_18.index t = ![t.val, 0, 0] :=
  (by decide +kernel : ∀ t : Fin grid0.N, _)

/-! A block of weights is the weights. -/

theorem iblk3_apply (t : Fin cfg0.N) (k : Fin 1280) (j : Fin 1280) :
    iblk m c 3 t (ix2 k j) = m ((c : Thread nD τ).loc main_arg3) (ix2 k j) := by
  blk_ext! [iblk, V, idx t]

theorem iblk8_apply (t : Fin cfg0.N) (k : Fin 1280) (j : Fin 5120) :
    iblk m c 8 t (ix2 k j) = m ((c : Thread nD τ).loc main_arg8) (ix2 k j) := by
  blk_ext! [iblk, V, idx t]

theorem iblk11_apply (t : Fin cfg0.N) (k : Fin 5120) (j : Fin 1280) :
    iblk m c 11 t (ix2 k j) = m ((c : Thread nD τ).loc main_arg11) (ix2 k j) := by
  blk_ext! [iblk, V, idx t]

/-! A block of one row is the array it was reshaped from. -/

theorem iblk4_apply (t : Fin cfg0.N) (j : Fin 1280) :
    iblk m c 4 t (ix2 0 j) = m ((c : Thread nD τ).loc main_arg4) (ix1 j) := by
  blk_ext! [iblk, V, idx t]

theorem iblk5_apply (t : Fin cfg0.N) (j : Fin 1280) :
    iblk m c 5 t (ix2 0 j) = m ((c : Thread nD τ).loc main_arg5) (ix1 j) := by
  blk_ext! [iblk, V, idx t]

theorem iblk6_apply (t : Fin cfg0.N) (j : Fin 1280) :
    iblk m c 6 t (ix2 0 j) = m ((c : Thread nD τ).loc main_arg6) (ix1 j) := by
  blk_ext! [iblk, V, idx t]

theorem iblk7_apply (t : Fin cfg0.N) (j : Fin 1280) :
    iblk m c 7 t (ix2 0 j) = m ((c : Thread nD τ).loc main_arg7) (ix1 j) := by
  blk_ext! [iblk, V, idx t]

theorem iblk9_apply (t : Fin cfg0.N) (j : Fin 5120) :
    iblk m c 9 t (ix2 0 j) = m ((c : Thread nD τ).loc main_arg9) (ix1 j) := by
  blk_ext! [iblk, V, idx t]

theorem iblk10_apply (t : Fin cfg0.N) (j : Fin 5120) :
    iblk m c 10 t (ix2 0 j) = m ((c : Thread nD τ).loc main_arg10) (ix1 j) := by
  blk_ext! [iblk, V, idx t]

theorem iblk12_apply (t : Fin cfg0.N) (j : Fin 1280) :
    iblk m c 12 t (ix2 0 j) = m ((c : Thread nD τ).loc main_arg12) (ix1 j) := by
  blk_ext! [iblk, V, idx t]

theorem iblk13_apply (t : Fin cfg0.N) (j : Fin 1280) :
    iblk m c 13 t (ix2 0 j) = m ((c : Thread nD τ).loc main_arg13) (ix1 j) := by
  blk_ext! [iblk, V, idx t]

/-! A block of rows is the tokens' rows, and a block of scales the tokens' scales. -/

theorem iblk0_apply (t : Fin cfg0.N) (i : Fin 512) (j : Fin 1280) :
    iblk m c 0 t (ix2 i j) = (args m c).x (ix3 (Model.image (Model.tok t i)) (Model.position (Model.tok t i)) j) := by
  unfold args Model.image Model.position Model.tok
  blk_ext! [iblk, V, idx t]

theorem iblk1_apply (t : Fin cfg0.N) (i : Fin 512) (j : Fin 1280) :
    iblk m c 1 t (ix2 i j) = (args m c).a (ix3 (Model.image (Model.tok t i)) (Model.position (Model.tok t i)) j) := by
  unfold args Model.image Model.position Model.tok
  blk_ext! [iblk, V, idx t]

theorem iblk2_apply (t : Fin cfg0.N) (i : Fin 512) :
    iblk m c 2 t (ix3 0 0 i) = (args m c).s (ix2 (Model.image (Model.tok t i)) (Model.position (Model.tok t i))) := by
  unfold args Model.image Model.position Model.tok
  blk_ext! [iblk, V, idx t]

/-- Every grid point's parameters are the arguments'. -/
theorem params_eq (t : Fin cfg0.N) : Block.params (blocks m c t) = (args m c).params := by
  unfold Block.params Model.Args.params
  congr 1
  · funext k j; exact iblk3_apply m c t k j
  · funext j; exact iblk4_apply m c t j
  · funext j; exact iblk5_apply m c t j
  · funext j; exact iblk6_apply m c t j
  · funext j; exact iblk7_apply m c t j
  · funext k j; exact iblk8_apply m c t k j
  · funext j; exact iblk9_apply m c t j
  · funext j; exact iblk10_apply m c t j
  · funext k j; exact iblk11_apply m c t k j
  · funext j; exact iblk12_apply m c t j
  · funext j; exact iblk13_apply m c t j

/-- Row `i` of grid point `t` is token `512 t + i`. -/
theorem token_eq (t : Fin cfg0.N) (i : Fin 512) : Block.token (blocks m c t) i = (args m c).token (Model.tok t i) := by
  unfold Block.token Model.Args.token
  congr 1
  · funext j; exact iblk0_apply m c t i j
  · funext j; exact iblk1_apply m c t i j
  · exact iblk2_apply m c t i

end Cert.KernelIdeal.Final

end
-- ==== Proof.KernelFinal.lean ====
/- The kernel's five result arrays after the run, as functions of its argument arrays. -/
module

public import proofs.«01_k».proof.Proof.KernelArgs
public import Idealize.ShloMosaic.Lib.Claim

@[expose] public section

set_option maxHeartbeats 4000000
set_option maxRecDepth 16384

noncomputable section

namespace Cert.KernelIdeal.Final

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The output rows. -/
theorem final14 : (dats m 0 c).arrAt 14 cfg0.N = (args m c).y := by
  refine (dats m 0 c).arrAt_eq_of_covers 14 _ (by decide +kernel) fun t hf y => ?_
  blk_simp
  rw [after0_14]
  unfold outsAt0
  dsimp only
  refine (congrFun (Block.out_14 (blocks m c t) c _ _ _ _ _ _ _ _ _ _ _ _ _ _ _ _ _ _ _ _ _ _ _ _ _ _ _ _ _ _ _ _ _ _ _ _ _ _ _ _ _) y).trans ?_
  idx_vars y
  rw [Block.output_apply, params_eq, token_eq]
  have he : (((View.whole main_v11_0).slice (win0_14.rect t)).emb (ix2 y0 y1)) = ix2 (Model.tok t y0) y1 := by
    unfold Model.tok
    blk_ext [idx t]
  rw [he]
  rfl

/-- The codes of the normalised rows. -/
theorem final15 : (dats m 0 c).arrAt 15 cfg0.N = (args m c).normCodes := by
  refine (dats m 0 c).arrAt_eq_of_covers 15 _ (by decide +kernel) fun t hf y => ?_
  blk_simp
  rw [after0_15]
  unfold outsAt0
  dsimp only
  refine (congrFun (Block.out_15 (blocks m c t) c _ _ _ _ _ _ _ _ _ _ _ _ _ _ _ _ _ _ _ _ _ _ _ _ _ _ _ _ _ _ _ _ _ _ _ _ _ _ _ _ _) y).trans ?_
  idx_vars y
  rw [Block.codes_apply, params_eq, token_eq]
  have he : (((View.whole main_v11_1).slice (win0_15.rect t)).emb (ix2 y0 y1)) = ix2 (Model.tok t y0) y1 := by
    unfold Model.tok
    blk_ext [idx t]
  rw [he]
  rfl

/-- The scales of the normalised rows. -/
theorem final16 : (dats m 0 c).arrAt 16 cfg0.N = (args m c).normScales := by
  refine (dats m 0 c).arrAt_eq_of_covers 16 _ (by decide +kernel) fun t hf y => ?_
  blk_simp
  rw [after0_16]
  unfold outsAt0
  dsimp only
  refine (congrFun (Block.out_16 (blocks m c t) c _ _ _ _ _ _ _ _ _ _ _ _ _ _ _ _ _ _ _ _ _ _ _ _ _ _ _ _ _ _ _ _ _ _ _ _ _ _ _ _ _) y).trans ?_
  idx_vars y
  obtain rfl : y0 = 0 := Subsingleton.elim _ _
  obtain rfl : y1 = 0 := Subsingleton.elim _ _
  rw [Block.stepRow_apply, params_eq, token_eq]
  have he : (((View.whole main_v11_2).slice (win0_16.rect t)).emb (ix3 0 0 y2)) = ix3 t 0 y2 := by
    blk_ext [idx t]
  rw [he]
  rfl

/-- The codes of the hidden rows. -/
theorem final17 : (dats m 0 c).arrAt 17 cfg0.N = (args m c).hidCodes := by
  refine (dats m 0 c).arrAt_eq_of_covers 17 _ (by decide +kernel) fun t hf y => ?_
  blk_simp
  rw [after0_17]
  unfold outsAt0
  dsimp only
  refine (congrFun (Block.out_17 (blocks m c t) c _ _ _ _ _ _ _ _ _ _ _ _ _ _ _ _ _ _ _ _ _ _ _ _ _ _ _ _ _ _ _ _ _ _ _ _ _ _ _ _ _) y).trans ?_
  idx_vars y
  rw [Block.hidCodes_apply, params_eq, token_eq]
  have he : (((View.whole main_v11_3).slice (win0_17.rect t)).emb (ix2 y0 y1)) = ix2 (Model.tok t y0) y1 := by
    unfold Model.tok
    blk_ext [idx t]
  rw [he]
  rfl

/-- The scales of the hidden rows. -/
theorem final18 : (dats m 0 c).arrAt 18 cfg0.N = (args m c).hidScales := by
  refine (dats m 0 c).arrAt_eq_of_covers 18 _ (by decide +kernel) fun t hf y => ?_
  blk_simp
  rw [after0_18]
  unfold outsAt0
  dsimp only
  refine (congrFun (Block.out_18 (blocks m c t) c _ _ _ _ _ _ _ _ _ _ _ _ _ _ _ _ _ _ _ _ _ _ _ _ _ _ _ _ _ _ _ _ _ _ _ _ _ _ _ _ _) y).trans ?_
  idx_vars y
  obtain rfl : y0 = 0 := Subsingleton.elim _ _
  obtain rfl : y1 = 0 := Subsingleton.elim _ _
  rw [Block.hidStepRow_apply, params_eq, token_eq]
  have he : (((View.whole main_v11_4).slice (win0_18.rect t)).emb (ix3 0 0 y2)) = ix3 t 0 y2 := by
    blk_ext [idx t]
  rw [he]
  rfl

end Cert.KernelIdeal.Final

end
-- ==== Proof.RefBlock.lean ====
/- What the reference's body leaves in its five output blocks, as its own payloads of its fourteen whole input arrays. -/
module

public import proofs.«01_k».proof.Proof.Gen.ReferenceIdeal.Frame
public import Idealize.ShloMosaic.Lib.Pipeline.Value

@[expose] public section

set_option maxRecDepth 16384

noncomputable section

namespace Cert.ReferenceIdeal.Block

open Cert.ReferenceIdeal Cert.ReferenceIdeal.Gen
open Idealize.ShloMosaic Idealize.ShloMosaic.TcCoe Idealize.SL.Sem

/-- The reference's fourteen input arrays, as its call takes them. -/
structure In (F : FTy → Type) where
  x0 : Vec F S24576x1280 .bf16
  x1 : Vec F S24576x1280 .i8
  x2 : Vec F S24576x1 .f32
  x3 : Vec F S1280x1280 .i8
  x4 : Vec F S1x1280 .f32
  x5 : Vec F S1x1280 .f32
  x6 : Vec F S1x1280 .f32
  x7 : Vec F S1x1280 .f32
  x8 : Vec F S1280x5120 .i8
  x9 : Vec F S1x5120 .f32
  x10 : Vec F S1x5120 .f32
  x11 : Vec F S5120x1280 .i8
  x12 : Vec F S1x1280 .f32
  x13 : Vec F S1x1280 .f32

section Generic
variable {F : FTy → Type} [FloatOps F]

/-- Zero offsets of a two-dimensional block. -/
theorem zero2 : (![0, 0] : Fin 2 → Nat) = fun _ => 0 := by funext i; fin_cases i <;> rfl

/-- Zero offsets of a three-dimensional block. -/
theorem zero3 : (![0, 0, 0] : Fin 3 → Nat) = fun _ => 0 := by funext i; fin_cases i <;> rfl

variable (I : In F)

/-- The rows after the output projection and the residual. -/
def resid : FVec F S24576x1280 .f32 := k0_pay2 I.x0 I.x1 I.x2 I.x3 I.x4 I.x5

/-- The rows less their means. -/
def centred : FVec F S24576x1280 .f32 := k0_pay5 I.x0 I.x1 I.x2 I.x3 I.x4 I.x5

/-- The rows' variances. -/
def variances : FVec F S24576x1 .f32 := k0_pay6 I.x0 I.x1 I.x2 I.x3 I.x4 I.x5

/-- The gain and the offset of the normalisation. -/
def gain : FVec F S1x1280 .f32 := k0_pay3 I.x6
def offset : FVec F S1x1280 .f32 := k0_pay4 I.x7

/-- The normalised rows, their quantiser steps and their codes. -/
def normed : FVec F S24576x1280 .f32 := k0_pay8 (gain I) (offset I) (centred I) (variances I) k0_pay7
def steps : FVec F S24576x1 .f32 := k0_pay9 (gain I) (offset I) (centred I) (variances I) k0_pay7
def codes : IVec S24576x1280 8 := k0_pay10 (gain I) (offset I) (centred I) (variances I) k0_pay7

/-- The first feed-forward layer, half of it, and the error function of it over `√2`. -/
def pre : FVec F S24576x5120 .f32 := k0_pay11 (gain I) (offset I) (centred I) (variances I) k0_pay7 I.x8 I.x9 I.x10
def half : FVec F S24576x5120 .f32 := k0_pay12 (gain I) (offset I) (centred I) (variances I) k0_pay7 I.x8 I.x9 I.x10
def erfs : FVec F S24576x5120 .f32 := k0_pay13 (gain I) (offset I) (centred I) (variances I) k0_pay7 I.x8 I.x9 I.x10

/-- The hidden rows, their quantiser steps and their codes. -/
def hid : FVec F S24576x5120 .f32 := k0_pay14 (half I) (erfs I) (Scalar.ofBits .f32 0x3F800000#32)
def hidSteps : FVec F S24576x1 .f32 := k0_pay15 (half I) (erfs I) (Scalar.ofBits .f32 0x3F800000#32)
def hidCodes : IVec S24576x5120 8 := k0_pay16 (half I) (erfs I) (Scalar.ofBits .f32 0x3F800000#32)

/-- The output rows. -/
def out : FVec F S24576x1280 .bf16 := k0_pay17 (resid I) (half I) (erfs I) (Scalar.ofBits .f32 0x3F800000#32) I.x11 I.x12 I.x13

/-- The names above, read backwards. -/
theorem resid_def : k0_pay2 I.x0 I.x1 I.x2 I.x3 I.x4 I.x5 = resid I := rfl
theorem centred_def : k0_pay5 I.x0 I.x1 I.x2 I.x3 I.x4 I.x5 = centred I := rfl
theorem normed_def : k0_pay8 (gain I) (offset I) (centred I) (variances I) k0_pay7 = normed I := rfl
theorem steps_def : k0_pay9 (gain I) (offset I) (centred I) (variances I) k0_pay7 = steps I := rfl
theorem codes_def : k0_pay10 (gain I) (offset I) (centred I) (variances I) k0_pay7 = codes I := rfl
theorem pre_def : k0_pay11 (gain I) (offset I) (centred I) (variances I) k0_pay7 I.x8 I.x9 I.x10 = pre I := rfl
theorem hid_def : k0_pay14 (half I) (erfs I) (Scalar.ofBits .f32 0x3F800000#32) = hid I := rfl
theorem hidSteps_def : k0_pay15 (half I) (erfs I) (Scalar.ofBits .f32 0x3F800000#32) = hidSteps I := rfl
theorem hidCodes_def : k0_pay16 (half I) (erfs I) (Scalar.ofBits .f32 0x3F800000#32) = hidCodes I := rfl

/-- The output rows: one store of the whole block. -/
theorem out_14 : out0_14 I.x0 I.x1 I.x2 I.x3 I.x4 I.x5 I.x6 I.x7 I.x8 I.x9 I.x10 I.x11 I.x12 I.x13 = out I := by
  unfold_out out0_14
  rw [View.canon_unit_zero (S := S24576x1280) zero2]
  simp only [View.ld_unit_zero (S := S24576x1280) zero2, View.ld_unit_zero (S := S24576x1) zero2, View.ld_unit_zero (S := S1280x1280) zero2, View.ld_unit_zero (S := S1x1280) zero2, View.ld_unit_zero (S := S1280x5120) zero2, View.ld_unit_zero (S := S1x5120) zero2, View.ld_unit_zero (S := S5120x1280) zero2]
  rfl

/-- The codes of the normalised rows: one store of the whole block. -/
theorem out_15 : out0_15 I.x0 I.x1 I.x2 I.x3 I.x4 I.x5 I.x6 I.x7 I.x8 I.x9 I.x10 I.x11 I.x12 I.x13 = codes I := by
  unfold_out out0_15
  rw [View.canon_unit_zero (S := S24576x1280) zero2]
  simp only [View.ld_unit_zero (S := S24576x1280) zero2, View.ld_unit_zero (S := S24576x1) zero2, View.ld_unit_zero (S := S1280x1280) zero2, View.ld_unit_zero (S := S1x1280) zero2, View.ld_unit_zero (S := S1280x5120) zero2, View.ld_unit_zero (S := S1x5120) zero2, View.ld_unit_zero (S := S5120x1280) zero2]
  rfl

/-- The steps of the normalised rows: one store of the whole block. -/
theorem out_16 : out0_16 I.x0 I.x1 I.x2 I.x3 I.x4 I.x5 I.x6 I.x7 I.x8 I.x9 I.x10 I.x11 I.x12 I.x13 = k0_pay18 (steps I) := by
  unfold_out out0_16
  rw [View.canon_unit_zero (S := S48x1x512) zero3]
  simp only [View.ld_unit_zero (S := S24576x1280) zero2, View.ld_unit_zero (S := S24576x1) zero2, View.ld_unit_zero (S := S1280x1280) zero2, View.ld_unit_zero (S := S1x1280) zero2, View.ld_unit_zero (S := S1280x5120) zero2, View.ld_unit_zero (S := S1x5120) zero2, View.ld_unit_zero (S := S5120x1280) zero2]
  rfl

/-- The codes of the hidden rows: one store of the whole block. -/
theorem out_17 : out0_17 I.x0 I.x1 I.x2 I.x3 I.x4 I.x5 I.x6 I.x7 I.x8 I.x9 I.x10 I.x11 I.x12 I.x13 = hidCodes I := by
  unfold_out out0_17
  rw [View.canon_unit_zero (S := S24576x5120) zero2]
  simp only [View.ld_unit_zero (S := S24576x1280) zero2, View.ld_unit_zero (S := S24576x1) zero2, View.ld_unit_zero (S := S1280x1280) zero2, View.ld_unit_zero (S := S1x1280) zero2, View.ld_unit_zero (S := S1280x5120) zero2, View.ld_unit_zero (S := S1x5120) zero2, View.ld_unit_zero (S := S5120x1280) zero2]
  rfl

/-- The steps of the hidden rows: one store of the whole block. -/
theorem out_18 : out0_18 I.x0 I.x1 I.x2 I.x3 I.x4 I.x5 I.x6 I.x7 I.x8 I.x9 I.x10 I.x11 I.x12 I.x13 = k0_pay1 (hidSteps I) := by
  unfold_out out0_18
  rw [View.canon_unit_zero (S := S48x1x512) zero3]
  simp only [View.ld_unit_zero (S := S24576x1280) zero2, View.ld_unit_zero (S := S24576x1) zero2, View.ld_unit_zero (S := S1280x1280) zero2, View.ld_unit_zero (S := S1x1280) zero2, View.ld_unit_zero (S := S1280x5120) zero2, View.ld_unit_zero (S := S1x5120) zero2, View.ld_unit_zero (S := S5120x1280) zero2]
  rfl

end Generic

end Cert.ReferenceIdeal.Block

end
-- ==== Proof.RefRows.lean ====
/- At the extended reals, every value of the reference read at a row is the row function of `Model` of that row. -/
module

public import proofs.«01_k».proof.Proof.RefBlock
public import proofs.«01_k».proof.Proof.Model

@[expose] public section

set_option maxRecDepth 16384

noncomputable section

namespace Cert.ReferenceIdeal.Block

open Cert.ReferenceIdeal Cert.ReferenceIdeal.Gen
open Idealize.ShloMosaic Idealize.ShloMosaic.TcCoe Idealize.SL.Sem

/-- A code as a float is the number it stands for. -/
theorem sitofp_eq (b : BitVec 8) : (FloatOps.sitofp .bf16 b : Ideal .bf16) = Model.int8 b := rfl

/-- The absolute value, the error function and the conversion to a code, over the extended reals. -/
theorem absf_eq (x : Ideal .f32) : FloatOps.absf x = max x (-x) := rfl
theorem erf_eq (x : Ideal .f32) : FloatOps.erf x = Ideal.erf x := rfl
theorem fptosi_eq (x : Ideal .f32) : FloatOps.fptosi 8 x = Ideal.fptosi 8 x := rfl

/-! The reference's elementwise chains at one index, over vectors of any shape. -/

/-- The quantiser's codes. -/
theorem code_of {S : Shape} (x d : FVec Ideal S .f32) (i : S.Idx) :
    fptosi 8 (minimumf (broadcast S (Scalar.ofBits (F := Ideal) .f32 0x42FE0000#32))
      (maximumf (broadcast S (Scalar.ofBits (F := Ideal) .f32 0xC2FE0000#32)) (roundeven (divf x d)))) i =
        Model.codeAt (d i) (x i) := by
  pointwise
  rfl

/-- The quantiser's steps. -/
theorem step_of {S : Shape} (r : FVec Ideal S .f32) (i : S.Idx) :
    select (cmpf .oeq r (broadcast S (Scalar.ofBits (F := Ideal) .f32 0x00000000#32)))
      (broadcast S (Scalar.ofBits (F := Ideal) .f32 0x3F800000#32))
      (divf r (broadcast S (Scalar.ofBits (F := Ideal) .f32 0x42FE0000#32))) i = Model.step (r i) := by
  pointwise
  simp only [Model.step]

/-- The activation. -/
theorem gelu_of {S : Shape} (f : FVec Ideal S .f32) (i : S.Idx) :
    mulf (mulf (broadcast S (Scalar.ofBits (F := Ideal) .f32 0x3F000000#32)) f)
      (addf (broadcast S (Scalar.ofBits (F := Ideal) .f32 0x3F800000#32))
        (erf (divf f (broadcast S (Scalar.ofBits (F := Ideal) .f32 0x3FB504F3#32))))) i = Model.gelu (f i) := by
  pointwise
  simp only [erf_eq, Model.gelu]

/-- A quantised linear layer from its product, its steps, its weights' scales and its offset. -/
theorem linear_of {S : Shape} (p s w b : FVec Ideal S .f32) (i : S.Idx) :
    addf (mulf (mulf p s) w) b i = (p i * s i * w i + b i : EReal) := rfl

variable (I : In Ideal)

/-- The parameters that the input arrays hold. -/
def params : Model.Params where
  wp k j := I.x3 (ix2 k j)
  wps j := I.x4 (ix2 0 j)
  bp j := I.x5 (ix2 0 j)
  g j := I.x6 (ix2 0 j)
  b j := I.x7 (ix2 0 j)
  w1 k j := I.x8 (ix2 k j)
  w1s j := I.x9 (ix2 0 j)
  b1 j := I.x10 (ix2 0 j)
  w2 k j := I.x11 (ix2 k j)
  w2s j := I.x12 (ix2 0 j)
  b2 j := I.x13 (ix2 0 j)

/-- The token that row `i` of the input arrays holds. -/
def token (i : Fin 24576) : Model.Token where
  x j := I.x0 (ix2 i j)
  a j := I.x1 (ix2 i j)
  s := I.x2 (ix2 i 0)

/-- The projection with its residual. -/
theorem resid_apply (i : Fin 24576) (j : Fin 1280) : resid I (ix2 i j) = Model.resid (params I) (token I i) j := by
  unfold resid k0_pay2
  pointwise
  simp only [sitofp_eq, Model.resid, Model.linear, token, params]

/-- A row less its mean. -/
theorem centred_apply (i : Fin 24576) (j : Fin 1280) :
    centred I (ix2 i j) = Model.resid (params I) (token I i) j - Model.mean (Model.resid (params I) (token I i)) := by
  unfold centred k0_pay5
  pointwise
  simp only [resid_def, resid_apply]
  simp only [Model.mean]

/-- A row's variance. -/
theorem variances_apply (i : Fin 24576) : variances I (ix2 i 0) = Model.var (Model.resid (params I) (token I i)) := by
  unfold variances k0_pay6
  pointwise
  simp only [centred_def, centred_apply]
  simp only [Model.var]

/-- The gain and the offset as the reference reads them. -/
theorem gain_apply (j : Fin 1280) : gain I (ix2 0 j) = (params I).g j := by
  unfold gain k0_pay3
  pointwise
  simp only [params]
theorem offset_apply (j : Fin 1280) : offset I (ix2 0 j) = (params I).b j := by
  unfold offset k0_pay4
  pointwise
  simp only [params]

/-- The normalised row. -/
theorem normed_apply (i : Fin 24576) (j : Fin 1280) : normed I (ix2 i j) = Model.normed (params I) (token I i) j := by
  unfold normed k0_pay8 k0_pay7
  pointwise
  rw [centred_apply, variances_apply, gain_apply, offset_apply]
  simp only [Model.normed, Model.layerNorm, Model.dev]

/-- A row's quantiser step. -/
theorem steps_apply (i : Fin 24576) : steps I (ix2 i 0) = Model.scale (Model.normed (params I) (token I i)) := by
  unfold steps k0_pay9
  rw [normed_def]
  have h : shapeCast S24576x1 (multiReduction .maximumf [1] S24576 (absf (normed I)) 0xFF800000#32
      reduces_S24576x1280_S24576 (.inl rfl) rfl) shapeCasts_S24576_S24576x1 (ix2 i 0) =
        Model.rowMax (Model.normed (params I) (token I i)) := by
    pointwise
    simp only [absf_eq, normed_apply, Model.rowMax]
  refine (step_of (shapeCast S24576x1 (multiReduction .maximumf [1] S24576 (absf (normed I)) 0xFF800000#32
      reduces_S24576x1280_S24576 (.inl rfl) rfl) shapeCasts_S24576_S24576x1) (ix2 i 0)).trans ?_
  rw [h, Model.scale]

/-- The codes of the normalised row. -/
theorem codes_apply (i : Fin 24576) (j : Fin 1280) : codes I (ix2 i j) = Model.code (Model.normed (params I) (token I i)) j := by
  unfold codes k0_pay10
  rw [normed_def, steps_def]
  have h : broadcastTo S24576x1280 (steps I) broadcasts_S24576x1_S24576x1280 (ix2 i j) = steps I (ix2 i 0) := by
    pointwise
  refine (code_of (normed I) (broadcastTo S24576x1280 (steps I) broadcasts_S24576x1_S24576x1280) (ix2 i j)).trans ?_
  rw [h, normed_apply, steps_apply, Model.code]

/-- The first feed-forward layer. -/
theorem pre_apply (i : Fin 24576) (j : Fin 5120) : pre I (ix2 i j) = Model.preact (params I) (token I i) j := by
  unfold pre k0_pay11
  rw [codes_def, steps_def]
  have hm : (matmul dot_S24576x1280_S1280x5120_S24576x5120_1_0_0_1_n_n none (sitofp .bf16 (codes I)) (sitofp .bf16 I.x8)
      (constant S24576x5120 .f32 0x00000000#32) : FVec Ideal S24576x5120 .f32) (ix2 i j) =
        ∑ k, Model.int8 (Model.code (Model.normed (params I) (token I i)) k) * Model.int8 (I.x8 (ix2 k j)) := by
    pointwise
    simp only [codes_apply, sitofp_eq]
  have h : broadcastTo S24576x5120 (steps I) broadcasts_S24576x1_S24576x5120 (ix2 i j) = steps I (ix2 i 0) := by
    pointwise
  have h1 : broadcastTo S24576x5120 (shapeCast S1x5120 I.x9 shapeCasts_S1x5120_S1x5120) broadcasts_S1x5120_S24576x5120 (ix2 i j) = I.x9 (ix2 0 j) := by
    pointwise
  have h2 : broadcastTo S24576x5120 (shapeCast S1x5120 I.x10 shapeCasts_S1x5120_S1x5120) broadcasts_S1x5120_S24576x5120 (ix2 i j) = I.x10 (ix2 0 j) := by
    pointwise
  have hl := linear_of (matmul dot_S24576x1280_S1280x5120_S24576x5120_1_0_0_1_n_n none (sitofp .bf16 (codes I)) (sitofp .bf16 I.x8)
      (constant S24576x5120 .f32 0x00000000#32) : FVec Ideal S24576x5120 .f32)
    (broadcastTo S24576x5120 (steps I) broadcasts_S24576x1_S24576x5120)
    (broadcastTo S24576x5120 (shapeCast S1x5120 I.x9 shapeCasts_S1x5120_S1x5120) broadcasts_S1x5120_S24576x5120)
    (broadcastTo S24576x5120 (shapeCast S1x5120 I.x10 shapeCasts_S1x5120_S1x5120) broadcasts_S1x5120_S24576x5120) (ix2 i j)
  rw [hm, h, h1, h2, steps_apply] at hl
  refine hl.trans ?_
  simp only [Model.preact, Model.linear, params]

/-- The hidden row. -/
theorem hid_apply (i : Fin 24576) (j : Fin 5120) : hid I (ix2 i j) = Model.hidden (params I) (token I i) j := by
  unfold hid k0_pay14 half erfs k0_pay12 k0_pay13
  rw [pre_def]
  refine (gelu_of (pre I) (ix2 i j)).trans ?_
  rw [pre_apply, Model.hidden]

/-- The steps laid out in 48 rows of 512: row `b`, position `i` is token `512 b + i`. -/
def tok (b : Fin 48) (i : Fin 512) : Fin 24576 := ⟨512 * b.val + i.val, by omega⟩

/-- The steps of the normalised rows, laid out. -/
theorem stepRow_apply (b : Fin 48) (i : Fin 512) :
    k0_pay18 (steps I) (ix3 b 0 i) = Model.scale (Model.normed (params I) (token I (tok b i))) := by
  unfold k0_pay18
  pointwise
  rw [← steps_apply]
  congr 2
  apply Fin.ext
  simp only [tok]
  omega

end Cert.ReferenceIdeal.Block

end
-- ==== Proof.RefHidden.lean ====
/- At the extended reals, the reference's hidden codes, their steps and the output read at a row are the row functions of `Model`. -/
module

public import proofs.«01_k».proof.Proof.RefRows

@[expose] public section

set_option maxRecDepth 16384

noncomputable section

namespace Cert.ReferenceIdeal.Block

open Cert.ReferenceIdeal Cert.ReferenceIdeal.Gen
open Idealize.ShloMosaic Idealize.ShloMosaic.TcCoe Idealize.SL.Sem

/-- A vector of rows' largest magnitudes. -/
theorem hidMax_of (f : FVec Ideal S24576x5120 .f32) (i : Fin 24576) :
    shapeCast S24576x1 (multiReduction .maximumf [1] S24576 (absf f) 0xFF800000#32
      reduces_S24576x5120_S24576 (.inl rfl) rfl) shapeCasts_S24576_S24576x1 (ix2 i 0) = Model.rowMax fun k => f (ix2 i k) := by
  pointwise
  simp only [absf_eq, Model.rowMax]

variable (I : In Ideal)

/-- A hidden row's quantiser step. -/
theorem hidSteps_apply (i : Fin 24576) : hidSteps I (ix2 i 0) = Model.scale (Model.hidden (params I) (token I i)) := by
  unfold hidSteps k0_pay15
  rw [hid_def]
  have h := hidMax_of (hid I) i
  simp only [hid_apply] at h
  refine (step_of (shapeCast S24576x1 (multiReduction .maximumf [1] S24576 (absf (hid I)) 0xFF800000#32
      reduces_S24576x5120_S24576 (.inl rfl) rfl) shapeCasts_S24576_S24576x1) (ix2 i 0)).trans ?_
  exact congrArg Model.step h

/-- The codes of the hidden row. -/
theorem hidCodes_apply (i : Fin 24576) (j : Fin 5120) :
    hidCodes I (ix2 i j) = Model.code (Model.hidden (params I) (token I i)) j := by
  unfold hidCodes k0_pay16
  rw [hid_def, hidSteps_def]
  have h : broadcastTo S24576x5120 (hidSteps I) broadcasts_S24576x1_S24576x5120 (ix2 i j) = hidSteps I (ix2 i 0) := by
    pointwise
  refine (code_of (hid I) (broadcastTo S24576x5120 (hidSteps I) broadcasts_S24576x1_S24576x5120) (ix2 i j)).trans ?_
  rw [h, hid_apply, hidSteps_apply, Model.code]

/-- The output row. -/
theorem output_apply (i : Fin 24576) (j : Fin 1280) :
    out I (ix2 i j) = Model.output (params I) (token I i) j := by
  unfold out k0_pay17
  rw [hidCodes_def, hidSteps_def]
  have hm : (matmul dot_S24576x5120_S5120x1280_S24576x1280_1_0_0_1_n_n none (sitofp .bf16 (hidCodes I)) (sitofp .bf16 I.x11)
      (constant S24576x1280 .f32 0x00000000#32) : FVec Ideal S24576x1280 .f32) (ix2 i j) =
        ∑ k, Model.int8 (Model.code (Model.hidden (params I) (token I i)) k) * Model.int8 (I.x11 (ix2 k j)) := by
    pointwise
    simp only [hidCodes_apply, sitofp_eq]
  have h : broadcastTo S24576x1280 (hidSteps I) broadcasts_S24576x1_S24576x1280 (ix2 i j) = hidSteps I (ix2 i 0) := by
    pointwise
  have h1 : broadcastTo S24576x1280 (shapeCast S1x1280 I.x12 shapeCasts_S1x1280_S1x1280) broadcasts_S1x1280_S24576x1280 (ix2 i j) = I.x12 (ix2 0 j) := by
    pointwise
  have h2 : broadcastTo S24576x1280 (shapeCast S1x1280 I.x13 shapeCasts_S1x1280_S1x1280) broadcasts_S1x1280_S24576x1280 (ix2 i j) = I.x13 (ix2 0 j) := by
    pointwise
  have hl := linear_of (matmul dot_S24576x5120_S5120x1280_S24576x1280_1_0_0_1_n_n none (sitofp .bf16 (hidCodes I)) (sitofp .bf16 I.x11)
      (constant S24576x1280 .f32 0x00000000#32) : FVec Ideal S24576x1280 .f32)
    (broadcastTo S24576x1280 (hidSteps I) broadcasts_S24576x1_S24576x1280)
    (broadcastTo S24576x1280 (shapeCast S1x1280 I.x12 shapeCasts_S1x1280_S1x1280) broadcasts_S1x1280_S24576x1280)
    (broadcastTo S24576x1280 (shapeCast S1x1280 I.x13 shapeCasts_S1x1280_S1x1280) broadcasts_S1x1280_S24576x1280) (ix2 i j)
  rw [hm, h, h1, h2, hidSteps_apply] at hl
  refine (congrArg (fun y : EReal => resid I (ix2 i j) + y) hl).trans ?_
  rw [resid_apply]
  simp only [Model.output, Model.linear, params]

/-- The steps of the hidden rows, laid out. -/
theorem hidStepRow_apply (b : Fin 48) (i : Fin 512) :
    k0_pay1 (hidSteps I) (ix3 b 0 i) = Model.scale (Model.hidden (params I) (token I (tok b i))) := by
  unfold k0_pay1
  pointwise
  rw [← hidSteps_apply]
  congr 2
  apply Fin.ext
  simp only [tok]
  omega

end Cert.ReferenceIdeal.Block

end
-- ==== Proof.RefArgs.lean ====
/- The reference's whole input arrays, as its argument arrays. -/
module

public import proofs.«01_k».proof.Proof.RefRows
public import proofs.«01_k».proof.Proof.Args
public import Idealize.ShloMosaic.Lib.Claim

@[expose] public section

set_option maxRecDepth 16384

noncomputable section

namespace Cert.ReferenceIdeal.Final

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The reference's argument arrays on device `c`. -/
def args : Model.Args where
  x := m ((c : Thread nD τ).loc main_arg0)
  a := m ((c : Thread nD τ).loc main_arg1)
  s := m ((c : Thread nD τ).loc main_arg2)
  wp := m ((c : Thread nD τ).loc main_arg3)
  wps := m ((c : Thread nD τ).loc main_arg4)
  bp := m ((c : Thread nD τ).loc main_arg5)
  g := m ((c : Thread nD τ).loc main_arg6)
  b := m ((c : Thread nD τ).loc main_arg7)
  w1 := m ((c : Thread nD τ).loc main_arg8)
  w1s := m ((c : Thread nD τ).loc main_arg9)
  b1 := m ((c : Thread nD τ).loc main_arg10)
  w2 := m ((c : Thread nD τ).loc main_arg11)
  w2s := m ((c : Thread nD τ).loc main_arg12)
  b2 := m ((c : Thread nD τ).loc main_arg13)

/-- The whole input arrays as the call takes them. -/
def blocks (t : Fin cfg0.N) : Block.In Ideal where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t

/-- Every window of the one grid point starts at zero (decided). -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0, 0] ∧ win0_17.index t = ![0, 0] ∧ win0_18.index t = ![0, 0, 0] :=
  (by decide +kernel : ∀ t : Fin grid0.N, _)

/-! A block of weights is the weights. -/

theorem iblk3_apply (t : Fin cfg0.N) (k : Fin 1280) (j : Fin 1280) :
    iblk m c 3 t (ix2 k j) = m ((c : Thread nD τ).loc main_arg3) (ix2 k j) := by
  blk_ext! [iblk, V, idx t]

theorem iblk8_apply (t : Fin cfg0.N) (k : Fin 1280) (j : Fin 5120) :
    iblk m c 8 t (ix2 k j) = m ((c : Thread nD τ).loc main_arg8) (ix2 k j) := by
  blk_ext! [iblk, V, idx t]

theorem iblk11_apply (t : Fin cfg0.N) (k : Fin 5120) (j : Fin 1280) :
    iblk m c 11 t (ix2 k j) = m ((c : Thread nD τ).loc main_arg11) (ix2 k j) := by
  blk_ext! [iblk, V, idx t]

/-! A block of one row is the array it was reshaped from. -/

theorem iblk4_apply (t : Fin cfg0.N) (j : Fin 1280) :
    iblk m c 4 t (ix2 0 j) = m ((c : Thread nD τ).loc main_arg4) (ix1 j) := by
  blk_ext! [iblk, V, idx t]

theorem iblk5_apply (t : Fin cfg0.N) (j : Fin 1280) :
    iblk m c 5 t (ix2 0 j) = m ((c : Thread nD τ).loc main_arg5) (ix1 j) := by
  blk_ext! [iblk, V, idx t]

theorem iblk6_apply (t : Fin cfg0.N) (j : Fin 1280) :
    iblk m c 6 t (ix2 0 j) = m ((c : Thread nD τ).loc main_arg6) (ix1 j) := by
  blk_ext! [iblk, V, idx t]

theorem iblk7_apply (t : Fin cfg0.N) (j : Fin 1280) :
    iblk m c 7 t (ix2 0 j) = m ((c : Thread nD τ).loc main_arg7) (ix1 j) := by
  blk_ext! [iblk, V, idx t]

theorem iblk9_apply (t : Fin cfg0.N) (j : Fin 5120) :
    iblk m c 9 t (ix2 0 j) = m ((c : Thread nD τ).loc main_arg9) (ix1 j) := by
  blk_ext! [iblk, V, idx t]

theorem iblk10_apply (t : Fin cfg0.N) (j : Fin 5120) :
    iblk m c 10 t (ix2 0 j) = m ((c : Thread nD τ).loc main_arg10) (ix1 j) := by
  blk_ext! [iblk, V, idx t]

theorem iblk12_apply (t : Fin cfg0.N) (j : Fin 1280) :
    iblk m c 12 t (ix2 0 j) = m ((c : Thread nD τ).loc main_arg12) (ix1 j) := by
  blk_ext! [iblk, V, idx t]

theorem iblk13_apply (t : Fin cfg0.N) (j : Fin 1280) :
    iblk m c 13 t (ix2 0 j) = m ((c : Thread nD τ).loc main_arg13) (ix1 j) := by
  blk_ext! [iblk, V, idx t]

/-! A block of rows is the tokens' rows, and a block of scales the tokens' scales. -/

theorem iblk0_apply (t : Fin cfg0.N) (i : Fin 24576) (j : Fin 1280) :
    iblk m c 0 t (ix2 i j) = (args m c).x (ix3 (Model.image i) (Model.position i) j) := by
  unfold args Model.image Model.position
  blk_ext! [iblk, V, idx t]

theorem iblk1_apply (t : Fin cfg0.N) (i : Fin 24576) (j : Fin 1280) :
    iblk m c 1 t (ix2 i j) = (args m c).a (ix3 (Model.image i) (Model.position i) j) := by
  unfold args Model.image Model.position
  blk_ext! [iblk, V, idx t]

theorem iblk2_apply (t : Fin cfg0.N) (i : Fin 24576) :
    iblk m c 2 t (ix2 i 0) = (args m c).s (ix2 (Model.image i) (Model.position i)) := by
  unfold args Model.image Model.position
  blk_ext! [iblk, V, idx t]

set_option maxHeartbeats 2000000 in
/-- The parameters are the arguments'. -/
theorem params_eq (t : Fin cfg0.N) : Block.params (blocks m c t) = (args m c).params := by
  unfold Block.params Model.Args.params
  congr 1
  · funext k j; exact iblk3_apply m c t k j
  · funext j; exact iblk4_apply m c t j
  · funext j; exact iblk5_apply m c t j
  · funext j; exact iblk6_apply m c t j
  · funext j; exact iblk7_apply m c t j
  · funext k j; exact iblk8_apply m c t k j
  · funext j; exact iblk9_apply m c t j
  · funext j; exact iblk10_apply m c t j
  · funext k j; exact iblk11_apply m c t k j
  · funext j; exact iblk12_apply m c t j
  · funext j; exact iblk13_apply m c t j

/-- Row `i` is token `i`. -/
theorem token_eq (t : Fin cfg0.N) (i : Fin 24576) : Block.token (blocks m c t) i = (args m c).token i := by
  unfold Block.token Model.Args.token
  congr 1
  · funext j; exact iblk0_apply m c t i j
  · funext j; exact iblk1_apply m c t i j
  · exact iblk2_apply m c t i

end Cert.ReferenceIdeal.Final

end
-- ==== Proof.RefFinal.lean ====
/- The reference's five result arrays after the run, as functions of its argument arrays. -/
module

public import proofs.«01_k».proof.Proof.RefHidden
public import proofs.«01_k».proof.Proof.RefArgs
public import Idealize.ShloMosaic.Lib.Claim

@[expose] public section

set_option maxHeartbeats 4000000
set_option maxRecDepth 16384

noncomputable section

namespace Cert.ReferenceIdeal.Final

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The output rows. -/
theorem final14 : (dats m 0 c).arrAt 14 cfg0.N = (args m c).y := by
  refine (dats m 0 c).arrAt_eq_of_after_last 14 t0_0 (by decide +kernel) _ fun j => ?_
  blk_simp
  rw [after0_14]
  refine (congrFun (Block.out_14 (blocks m c t0_0)) j).trans ?_
  idx_vars j
  rw [Block.output_apply, params_eq, token_eq]
  rfl

/-- The codes of the normalised rows. -/
theorem final15 : (dats m 0 c).arrAt 15 cfg0.N = (args m c).normCodes := by
  refine (dats m 0 c).arrAt_eq_of_after_last 15 t0_0 (by decide +kernel) _ fun j => ?_
  blk_simp
  rw [after0_15]
  refine (congrFun (Block.out_15 (blocks m c t0_0)) j).trans ?_
  idx_vars j
  rw [Block.codes_apply, params_eq, token_eq]
  rfl

/-- The scales of the normalised rows. -/
theorem final16 : (dats m 0 c).arrAt 16 cfg0.N = (args m c).normScales := by
  refine (dats m 0 c).arrAt_eq_of_after_last 16 t0_0 (by decide +kernel) _ fun j => ?_
  blk_simp
  rw [after0_16]
  refine (congrFun (Block.out_16 (blocks m c t0_0)) j).trans ?_
  idx_vars j
  obtain rfl : j1 = 0 := Subsingleton.elim _ _
  rw [Block.stepRow_apply, params_eq, token_eq]
  rfl

/-- The codes of the hidden rows. -/
theorem final17 : (dats m 0 c).arrAt 17 cfg0.N = (args m c).hidCodes := by
  refine (dats m 0 c).arrAt_eq_of_after_last 17 t0_0 (by decide +kernel) _ fun j => ?_
  blk_simp
  rw [after0_17]
  refine (congrFun (Block.out_17 (blocks m c t0_0)) j).trans ?_
  idx_vars j
  rw [Block.hidCodes_apply, params_eq, token_eq]
  rfl

/-- The scales of the hidden rows. -/
theorem final18 : (dats m 0 c).arrAt 18 cfg0.N = (args m c).hidScales := by
  refine (dats m 0 c).arrAt_eq_of_after_last 18 t0_0 (by decide +kernel) _ fun j => ?_
  blk_simp
  rw [after0_18]
  refine (congrFun (Block.out_18 (blocks m c t0_0)) j).trans ?_
  idx_vars j
  obtain rfl : j1 = 0 := Subsingleton.elim _ _
  rw [Block.hidStepRow_apply, params_eq, token_eq]
  rfl

end Cert.ReferenceIdeal.Final

end
-- ==== Proof.Pair.lean ====
/- The kernel and the reference end with equal results: both end with the same functions of the argument arrays. -/
module

public import proofs.«01_k».proof.Defs
public import proofs.«01_k».proof.Proof.KernelFinal
public import proofs.«01_k».proof.Proof.RefFinal

@[expose] public section

set_option maxHeartbeats 4000000
set_option maxRecDepth 16384

noncomputable section

namespace Cert.Pair

open Idealize.ShloMosaic Idealize.ShloMosaic.TcCoe Idealize.SL.Sem

/-- From equal argument arrays both programs read the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Final.args m' c = Cert.KernelIdeal.Final.args m c := by
  rw [Cert.ReferenceIdeal.Final.args, Cert.KernelIdeal.Final.args, Model.Args.mk.injEq]
  exact h

/-- The value claim. -/
theorem algebraic : @Cert.algebraic_KernelIdeal_ReferenceIdeal Cert.KernelIdeal.Gen.facts Cert.ReferenceIdeal.Gen.facts := by
  pair_intro
  · run_from Cert.KernelIdeal.Value.run_blocks m g
  · run_from Cert.ReferenceIdeal.Gen.run_main m' g'
    · exact (Cert.ReferenceIdeal.Final.final14 m' c).trans
        ((congrArg Model.Args.y (args_eq m m' c (hagree c))).trans (Cert.KernelIdeal.Final.final14 m c).symm)
    · exact (Cert.ReferenceIdeal.Final.final15 m' c).trans
        ((congrArg Model.Args.normCodes (args_eq m m' c (hagree c))).trans (Cert.KernelIdeal.Final.final15 m c).symm)
    · exact (hc.1 16).trans ((Cert.ReferenceIdeal.Final.final16 m' c).trans
        ((congrArg Model.Args.normScales (args_eq m m' c (hagree c))).trans (Cert.KernelIdeal.Final.final16 m c).symm))
    · exact (hc.1 17).trans ((Cert.ReferenceIdeal.Final.final17 m' c).trans
        ((congrArg Model.Args.hidCodes (args_eq m m' c (hagree c))).trans (Cert.KernelIdeal.Final.final17 m c).symm))
    · exact (hc.1 18).trans ((Cert.ReferenceIdeal.Final.final18 m' c).trans
        ((congrArg Model.Args.hidScales (args_eq m m' c (hagree c))).trans (Cert.KernelIdeal.Final.final18 m c).symm))

end Cert.Pair

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => Cert.ReferenceIdeal.Gen.frame m g,
  IdealRules.named_const.statement _ _ _ _ _ rfl,
  Cert.Pair.algebraic⟩

end Cert.Proof

end
